-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_inputs_KernelIdeal [hPre_finite_router_inputs_KernelIdeal : Cert.Pre_finite_router_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_router_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_inputs_ReferenceIdeal [hPre_finite_router_inputs_ReferenceIdeal : Cert.Pre_finite_router_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_router_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_inputs_KernelIdeal [hKernelIdeal : Cert.KernelIdeal.Facts] [hPre_finite_router_inputs_KernelIdeal : Cert.Pre_finite_router_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_inputs_ReferenceIdeal [hReferenceIdeal : Cert.ReferenceIdeal.Facts] [hPre_finite_router_inputs_ReferenceIdeal : Cert.Pre_finite_router_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_inputs_KernelIdeal [hKernelIdeal : Cert.KernelIdeal.Facts] [hReferenceIdeal : Cert.ReferenceIdeal.Facts] [hPre_finite_router_inputs_KernelIdeal : Cert.Pre_finite_router_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_inputs_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_inputs_KernelIdeal : Cert.Pre_finite_router_inputs_KernelIdeal.Facts) (hPre_finite_router_inputs_ReferenceIdeal : Cert.Pre_finite_router_inputs_ReferenceIdeal.Facts),
    quiescent_Kernel (hKernel := hKernel)
    ∧ quiescent_KernelIdeal (hKernelIdeal := hKernelIdeal)
    ∧ quiescent_KernelIdeal_pre_finite_router_inputs_KernelIdeal (hKernelIdeal := hKernelIdeal) (hPre_finite_router_inputs_KernelIdeal := hPre_finite_router_inputs_KernelIdeal)
    ∧ quiescent_ReferenceIdeal (hReferenceIdeal := hReferenceIdeal)
    ∧ quiescent_ReferenceIdeal_pre_finite_router_inputs_ReferenceIdeal (hReferenceIdeal := hReferenceIdeal) (hPre_finite_router_inputs_ReferenceIdeal := hPre_finite_router_inputs_ReferenceIdeal)
    ∧ preserves_Kernel_KernelIdeal
    ∧ algebraic_KernelIdeal_ReferenceIdeal_pre_finite_router_inputs_KernelIdeal (hKernelIdeal := hKernelIdeal) (hReferenceIdeal := hReferenceIdeal) (hPre_finite_router_inputs_KernelIdeal := hPre_finite_router_inputs_KernelIdeal)
-- ==== Pre_finite_router_inputs_KernelIdeal.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S512x16 : S_.BroadcastsInDim S512x16 (![] : Fin 0 → Fin S512x16.rank)

variable [Facts]

def fn {F : FTy → Type} [FloatOps F] (main_arg0 : FVec F S2048x512 .bf16) (main_arg1 : FVec F S512x16 .bf16) (main_arg2 : IVec S2048x1 32) (main_arg3 : FVec F S4x512x1024 .bf16) (main_arg4 : FVec F S512x1024 .bf16) : IVec S2048x512 1 × IVec S512x16 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  (main_v3, main_v7)
-- ==== Pre_finite_router_inputs_ReferenceIdeal.lean ====
abbrev S8192x512 : Shape := ⟨2, ![8192, 512]⟩
abbrev S512x16 : Shape := ⟨2, ![512, 16]⟩
abbrev S8192x1 : Shape := ⟨2, ![8192, 1]⟩
abbrev S16x512x1024 : Shape := ⟨3, ![16, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S512x16 : S_.BroadcastsInDim S512x16 (![] : Fin 0 → Fin S512x16.rank)

variable [Facts]

def fn {F : FTy → Type} [FloatOps F] (main_arg0 : FVec F S8192x512 .bf16) (main_arg1 : FVec F S512x16 .bf16) (main_arg2 : IVec S8192x1 32) (main_arg3 : FVec F S16x512x1024 .bf16) (main_arg4 : FVec F S512x1024 .bf16) : IVec S8192x512 1 × IVec S512x16 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  (main_v3, main_v7)
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2x2x512x1024 : Shape := ⟨4, ![2, 2, 512, 1024]⟩
abbrev S3 : Shape := ⟨1, ![3]⟩
abbrev S_ : Shape := ⟨0, ![]⟩
abbrev S1 : Shape := ⟨1, ![1]⟩
abbrev S1x2x512x1024 : Shape := ⟨4, ![1, 2, 512, 1024]⟩
abbrev S2x512x1024 : Shape := ⟨3, ![2, 512, 1024]⟩
abbrev S2048x16 : Shape := ⟨2, ![2048, 16]⟩
abbrev S2048 : Shape := ⟨1, ![2048]⟩
abbrev S1x16 : Shape := ⟨2, ![1, 16]⟩
abbrev S1x512x1024 : Shape := ⟨3, ![1, 512, 1024]⟩
abbrev S1x1x512x1024 : Shape := ⟨4, ![1, 1, 512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S2048x1024, .f32⟩
  | .local _ .vmem, ⟨0, _⟩ => ⟨S2048x512, .bf16⟩
  | .local _ .vmem, ⟨1, _⟩ => ⟨S512x16, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S2048x1024, .f32⟩
  | .local _ .vmem, ⟨6, _⟩ => ⟨S2x2x512x1024, .bf16⟩
  | .local _ .vmem, ⟨7, _⟩ => ⟨S2x2x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_4 : BitVec 32 := 1#32
  let v8 : BitVec 32 := Scalar.muli v6 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_6 : BitVec 32 := 1#32
  let v10 : BitVec 32 := Scalar.muli v4 c1_i32_6
  let v11 : BitVec 32 := Scalar.addi c0_i32_7 v10
  v11.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_11 : BitVec 32 := 1#32
  let v12 : BitVec 32 := Scalar.muli v4 c1_i32_11
  let v13 : BitVec 32 := Scalar.addi c0_i32_12 v12
  v13.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_22 : BitVec 32 := 1#32
  let v21 : BitVec 32 := Scalar.muli v6 c1_i32_22
  let v22 : BitVec 32 := Scalar.addi c0_i32_23 v21
  v22.toNat
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_135 : BitVec 32 := 1#32
  let v150 : BitVec 32 := Scalar.muli v4 c1_i32_135
  let v151 : BitVec 32 := Scalar.addi c0_i32_136 v150
  v151.toNat
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_147 : BitVec 32 := 1#32
  let v160 : BitVec 32 := Scalar.muli v6 c1_i32_147
  let v161 : BitVec 32 := Scalar.addi c0_i32_148 v160
  v161.toNat
def k0_dev7 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_258 : BitVec 32 := 1#32
  let v270 : BitVec 32 := Scalar.muli v6 c1_i32_258
  let v271 : BitVec 32 := Scalar.addi c0_i32_259 v270
  v271.toNat
def k0_dev8 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_261 : BitVec 32 := 1#32
  let v272 : BitVec 32 := Scalar.muli v4 c1_i32_261
  let v273 : BitVec 32 := Scalar.addi c0_i32_262 v272
  v273.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_269 : BitVec 32 := 1#32
  let v274 : BitVec 32 := Scalar.muli v4 c1_i32_269
  let v275 : BitVec 32 := Scalar.addi c0_i32_270 v274
  v275.toNat
def k0_dev10 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_281 : BitVec 32 := 1#32
  let v284 : BitVec 32 := Scalar.muli v6 c1_i32_281
  let v285 : BitVec 32 := Scalar.addi c0_i32_282 v284
  v285.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x512 : Shape := ⟨2, ![8192, 512]⟩
abbrev S512x16 : Shape := ⟨2, ![512, 16]⟩
abbrev S8192x1 : Shape := ⟨2, ![8192, 1]⟩
abbrev S16x512x1024 : Shape := ⟨3, ![16, 512, 1024]⟩
abbrev S512x1024 : Shape := ⟨2, ![512, 1024]⟩
abbrev S8192x16 : Shape := ⟨2, ![8192, 16]⟩
abbrev S_ : Shape := ⟨0, ![]⟩
abbrev S8192 : Shape := ⟨1, ![8192]⟩
abbrev S8192x1024 : Shape := ⟨2, ![8192, 1024]⟩
abbrev S8192x1x1 : Shape := ⟨3, ![8192, 1, 1]⟩
abbrev S8192x512x1024 : Shape := ⟨3, ![8192, 512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x16, .bf16⟩
  | .hbm, ⟨2, _⟩ => ⟨S8192x1, .i32⟩
  | .hbm, ⟨3, _⟩ => ⟨S16x512x1024, .bf16⟩
  | .hbm, ⟨4, _⟩ => ⟨S512x1024, .bf16⟩
  | .hbm, ⟨5, _⟩ => ⟨S8192x512, .f32⟩
  | .hbm, ⟨6, _⟩ => ⟨S512x16, .f32⟩
  | .hbm, ⟨7, _⟩ => ⟨S8192x16, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S512x1024, .f32⟩
  | .hbm, ⟨20, _⟩ => ⟨S8192x1024, .f32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i1⟩
  | .hbm, ⟨27, _⟩ => ⟨S8192x1, .i1⟩
  | .hbm, ⟨28, _⟩ => ⟨S_, .i32⟩
  | .hbm, ⟨29, _⟩ => ⟨S8192x1, .i32⟩
  | .hbm, ⟨30, _⟩ => ⟨S8192x1, .i1⟩
  | .hbm, ⟨31, _⟩ => ⟨S_, .i32⟩
  | .hbm, ⟨32, _⟩ => ⟨S8192x1, .i32⟩
  | .hbm, ⟨33, _⟩ => ⟨S8192x1, .i32⟩
  | .hbm, ⟨34, _⟩ => ⟨S8192x1, .i32⟩
  | .hbm, ⟨35, _⟩ => ⟨S8192x1x1, .i32⟩
  | .hbm, ⟨36, _⟩ => ⟨S8192x1, .f32⟩
  | .hbm, ⟨37, _⟩ => ⟨S_, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S16x512x1024, .f32⟩
  | .hbm, ⟨42, _⟩ => ⟨S8192, .i32⟩
  | .hbm, ⟨43, _⟩ => ⟨S8192x1, .i32⟩
  | .hbm, ⟨44, _⟩ => ⟨S8192x512x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Proof.Ideal.Proto.lean ====
/-
The protocol of the four-device ring: the buffers and their slots, the fourteen semaphores of a device, what each
device owes and what a wait on each semaphore hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: memory `m`, every semaphore at zero. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- One step round the ring, as a permutation of the devices. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = prv c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)

/-! ## Buffers and their parts -/

abbrev xM : Memref sig .tc .vmem S2048x512 .bf16 := Memref.whole cc0_stg0_0
abbrev wM : Memref sig .tc .vmem S512x16 .bf16 := Memref.whole cc0_stg1_0
abbrev iM : Memref sig .tc .vmem S2048x1 .i32 := Memref.whole cc0_stg2_0
abbrev eM : Memref sig .tc .vmem S4x512x1024 .bf16 := Memref.whole cc0_stg3_0
abbrev hM : Memref sig .tc .vmem S512x1024 .bf16 := Memref.whole cc0_stg4_0
abbrev oM : Memref sig .tc .vmem S2048x1024 .f32 := Memref.whole cc0_stg5_0
abbrev rM : Memref sig .tc .vmem S2x2x512x1024 .bf16 := Memref.whole cc0_scratch0
abbrev lM : Memref sig .tc .vmem S2x2x512x1024 .bf16 := Memref.whole cc0_scratch1

/-- The rectangle of slot 0, of slot 1. -/
abbrev q0 : Rect S2x2x512x1024 := Rect.unit (s := S2x2x512x1024) ![0, 0, 0, 0] S1x2x512x1024.size inb_S2x2x512x1024_S1x2x512x1024_0_0_0_0
abbrev q1 : Rect S2x2x512x1024 := Rect.unit (s := S2x2x512x1024) ![1, 0, 0, 0] S1x2x512x1024.size inb_S2x2x512x1024_S1x2x512x1024_1_0_0_0
/-- The first and the last two of a device's four experts. -/
abbrev h0 : Rect S4x512x1024 := Rect.unit (s := S4x512x1024) ![0, 0, 0] S2x512x1024.size inb_S4x512x1024_S2x512x1024_0_0_0
abbrev h1 : Rect S4x512x1024 := Rect.unit (s := S4x512x1024) ![2, 0, 0] S2x512x1024.size inb_S4x512x1024_S2x512x1024_2_0_0

abbrev rM0 : Memref sig .tc .vmem S2x512x1024 .bf16 := (rM.slice q0 (fun _ => rfl)).squeeze S2x512x1024 squeezes_S1x2x512x1024_S2x512x1024
abbrev rM1 : Memref sig .tc .vmem S2x512x1024 .bf16 := (rM.slice q1 (fun _ => rfl)).squeeze S2x512x1024 squeezes_S1x2x512x1024_S2x512x1024
abbrev lM0 : Memref sig .tc .vmem S2x512x1024 .bf16 := (lM.slice q0 (fun _ => rfl)).squeeze S2x512x1024 squeezes_S1x2x512x1024_S2x512x1024
abbrev lM1 : Memref sig .tc .vmem S2x512x1024 .bf16 := (lM.slice q1 (fun _ => rfl)).squeeze S2x512x1024 squeezes_S1x2x512x1024_S2x512x1024
abbrev eM0 : Memref sig .tc .vmem S2x512x1024 .bf16 := eM.slice h0 (fun _ => rfl)
abbrev eM1 : Memref sig .tc .vmem S2x512x1024 .bf16 := eM.slice h1 (fun _ => rfl)

/-- The rectangle of slot `s`, and of half `h` of the experts. -/
def slotSet (s : Fin 2) : Finset S2x2x512x1024.Idx := if s = 0 then q0.set else q1.set
def halfSet (h : Fin 2) : Finset S4x512x1024.Idx := if h = 0 then h0.set else h1.set

theorem mem_slot (s : Fin 2) (i : S2x2x512x1024.Idx) : i ∈ slotSet s ↔ (i 0).val = s.val := by
  have b0 : (i 0).val < 2 := (i 0).isLt
  have b1 : (i 1).val < 2 := (i 1).isLt
  have b2 : (i 2).val < 512 := (i 2).isLt
  have b3 : (i 3).val < 1024 := (i 3).isLt
  unfold slotSet
  match s with
  | 0 =>
    rw [if_pos rfl, Rect.mem_set_unit, Fin.forall_fin_succ, Fin.forall_fin_succ, Fin.forall_fin_succ, Fin.forall_fin_succ]
    simp [S1x2x512x1024]; omega
  | 1 =>
    rw [if_neg (by decide), Rect.mem_set_unit, Fin.forall_fin_succ, Fin.forall_fin_succ, Fin.forall_fin_succ, Fin.forall_fin_succ]
    simp [S1x2x512x1024]; omega

theorem mem_half (h : Fin 2) (i : S4x512x1024.Idx) : i ∈ halfSet h ↔ (i 0).val / 2 = h.val := by
  have b0 : (i 0).val < 4 := (i 0).isLt
  have b1 : (i 1).val < 512 := (i 1).isLt
  have b2 : (i 2).val < 1024 := (i 2).isLt
  unfold halfSet
  match h with
  | 0 =>
    rw [if_pos rfl, Rect.mem_set_unit, Fin.forall_fin_succ, Fin.forall_fin_succ, Fin.forall_fin_succ]
    simp [S2x512x1024]; omega
  | 1 =>
    rw [if_neg (by decide), Rect.mem_set_unit, Fin.forall_fin_succ, Fin.forall_fin_succ, Fin.forall_fin_succ]
    simp [S2x512x1024]; omega

theorem slot_compl : (Finset.univ : Finset S2x2x512x1024.Idx) \ slotSet 0 = slotSet 1 := by
  ext i
  have b0 : (i 0).val < 2 := (i 0).isLt
  rw [Finset.mem_sdiff, mem_slot, mem_slot]
  simp; omega
theorem half_compl : (Finset.univ : Finset S4x512x1024.Idx) \ halfSet 0 = halfSet 1 := by
  ext i
  have b0 : (i 0).val < 4 := (i 0).isLt
  rw [Finset.mem_sdiff, mem_half, mem_half]
  simp; omega

theorem rM0_set : (rM0).view.set = slotSet 0 := by
  unfold slotSet; rw [if_pos rfl]; exact (View.set_reshape _ _).trans (View.set_slice_whole _ _)
theorem rM1_set : (rM1).view.set = slotSet 1 := by
  unfold slotSet; rw [if_neg (by decide)]; exact (View.set_reshape _ _).trans (View.set_slice_whole _ _)
theorem lM0_set : (lM0).view.set = slotSet 0 := by
  unfold slotSet; rw [if_pos rfl]; exact (View.set_reshape _ _).trans (View.set_slice_whole _ _)
theorem lM1_set : (lM1).view.set = slotSet 1 := by
  unfold slotSet; rw [if_neg (by decide)]; exact (View.set_reshape _ _).trans (View.set_slice_whole _ _)
theorem eM0_set : (eM0).view.set = halfSet 0 := by
  unfold halfSet; rw [if_pos rfl]; exact View.set_slice_whole _ _
theorem eM1_set : (eM1).view.set = halfSet 1 := by
  unfold halfSet; rw [if_neg (by decide)]; exact View.set_slice_whole _ _

abbrev rLoc (c : Dev nD) : Loc nD τ sig := (c : Thread nD τ).loc cc0_scratch0
abbrev lLoc (c : Dev nD) : Loc nD τ sig := (c : Thread nD τ).loc cc0_scratch1
abbrev eLoc (c : Dev nD) : Loc nD τ sig := (c : Thread nD τ).loc cc0_stg3_0

/-! ## Contents -/

/-- What the staging buffers of device `c` hold: its tokens, the router weights, the routes, its experts, the shared weights. -/
def xS (c : Dev nD) : (cc0_stg0_0 : Ref sig .tc).ty.Contents (Elt F) :=
  (win0_0.blk (0 : Fin 1)).view.read (Elt F) ((s₀ m ρ).mem ((c : Thread nD τ).loc main_arg0))
def wS (c : Dev nD) : (cc0_stg1_0 : Ref sig .tc).ty.Contents (Elt F) :=
  (win0_1.blk (0 : Fin 1)).view.read (Elt F) ((s₀ m ρ).mem ((c : Thread nD τ).loc main_arg1))
def iS (c : Dev nD) : (cc0_stg2_0 : Ref sig .tc).ty.Contents (Elt F) :=
  (win0_2.blk (0 : Fin 1)).view.read (Elt F) ((s₀ m ρ).mem ((c : Thread nD τ).loc main_arg2))
def eS (c : Dev nD) : (cc0_stg3_0 : Ref sig .tc).ty.Contents (Elt F) :=
  (win0_3.blk (0 : Fin 1)).view.read (Elt F) ((s₀ m ρ).mem ((c : Thread nD τ).loc main_arg3))
def hS (c : Dev nD) : (cc0_stg4_0 : Ref sig .tc).ty.Contents (Elt F) :=
  (win0_4.blk (0 : Fin 1)).view.read (Elt F) ((s₀ m ρ).mem ((c : Thread nD τ).loc main_arg4))

set_option backward.proofsInPublic true in
/-- The first two experts of `c`, in either slot of a receive buffer. -/
def RC (c : Dev nD) : (cc0_scratch0 : Ref sig .tc).ty.Contents (Elt F) := fun i : S2x2x512x1024.Idx =>
  eS m ρ c (ix3 (n0 := 4) (n1 := 512) (n2 := 1024) ⟨(i 1).val, Nat.lt_trans (i 1).isLt (by decide)⟩ ⟨(i 2).val, (i 2).isLt⟩ ⟨(i 3).val, (i 3).isLt⟩)
set_option backward.proofsInPublic true in
/-- The last two experts of `c`, in either slot of a receive buffer. -/
def LC (c : Dev nD) : (cc0_scratch1 : Ref sig .tc).ty.Contents (Elt F) := fun i : S2x2x512x1024.Idx =>
  eS m ρ c (ix3 (n0 := 4) (n1 := 512) (n2 := 1024) ⟨(i 1).val + 2, Nat.add_lt_add_right (m := 2) (i 1).isLt 2⟩ ⟨(i 2).val, (i 2).isLt⟩ ⟨(i 3).val, (i 3).isLt⟩)

def rPts (s : Fin 2) (q : PosShare TreeShare) (c : Dev nD) (f : Buf (Elt F) (rLoc c)) : sProp 𝕄 := rLoc c ↦[slotSet s]{q} f
def lPts (s : Fin 2) (q : PosShare TreeShare) (c : Dev nD) (f : Buf (Elt F) (lLoc c)) : sProp 𝕄 := lLoc c ↦[slotSet s]{q} f
def ePts (h : Fin 2) (q : PosShare TreeShare) (c : Dev nD) : sProp 𝕄 := eLoc c ↦[halfSet h]{q} eS m ρ c

omit [FloatOps F] in
instance rPts_storable (s q) (c : Dev nD) (f) : BI.Storable (upEmb : UEmb _ 𝕄) (rPts (F := F) s q c f) := by unfold rPts; infer_instance
omit [FloatOps F] in
instance lPts_storable (s q) (c : Dev nD) (f) : BI.Storable (upEmb : UEmb _ 𝕄) (lPts (F := F) s q c f) := by unfold lPts; infer_instance
omit [FloatOps F] in
instance ePts_storable (h q) (c : Dev nD) : BI.Storable (upEmb : UEmb _ 𝕄) (ePts (F := F) m ρ h q c) := by unfold ePts; infer_instance

omit [FloatOps F] in
/-- A whole receive buffer is its two slots. -/
theorem r_split (c : Dev nD) (q) (f : Buf (Elt F) (rLoc c)) : (rLoc c ↦{q} f : sProp 𝕄) ⊣⊢ iprop(rPts 0 q c f ∗ rPts 1 q c f) := by
  unfold rPts; rw [← slot_compl]; exact pointsTo_split_subset (Finset.subset_univ (slotSet 0))
omit [FloatOps F] in
theorem l_split (c : Dev nD) (q) (f : Buf (Elt F) (lLoc c)) : (lLoc c ↦{q} f : sProp 𝕄) ⊣⊢ iprop(lPts 0 q c f ∗ lPts 1 q c f) := by
  unfold lPts; rw [← slot_compl]; exact pointsTo_split_subset (Finset.subset_univ (slotSet 0))
omit [FloatOps F] in
/-- The experts' buffer is its two halves. -/
theorem e_split (c : Dev nD) (q) : (eLoc c ↦{q} eS m ρ c : sProp 𝕄) ⊣⊢ iprop(ePts m ρ 0 q c ∗ ePts m ρ 1 q c) := by
  unfold ePts; rw [← half_compl]; exact pointsTo_split_subset (Finset.subset_univ (halfSet 0))
omit [FloatOps F] in
/-- Two slots at two contents are a whole buffer at some contents. -/
theorem r_join (c : Dev nD) (f g : Buf (Elt F) (rLoc c)) : iprop(rPts 0 fullShare c f ∗ rPts 1 fullShare c g) ⊢ (iprop(∃ h, rLoc c ↦{fullShare} h) : sProp 𝕄) := by
  unfold rPts; rw [← slot_compl]
  refine (pointsTo_join_subset (Finset.subset_univ (slotSet 0))).trans ?_
  iintro H; iexists _; iexact H
omit [FloatOps F] in
theorem l_join (c : Dev nD) (f g : Buf (Elt F) (lLoc c)) : iprop(lPts 0 fullShare c f ∗ lPts 1 fullShare c g) ⊢ (iprop(∃ h, lLoc c ↦{fullShare} h) : sProp 𝕄) := by
  unfold lPts; rw [← slot_compl]
  refine (pointsTo_join_subset (Finset.subset_univ (slotSet 0))).trans ?_
  iintro H; iexists _; iexact H
omit [FloatOps F] in
theorem r_halves (s) (c : Dev nD) (f : Buf (Elt F) (rLoc c)) : (rPts s fullShare c f : sProp 𝕄) ⊣⊢ iprop(rPts s fullShare.left c f ∗ rPts s fullShare.right c f) :=
  pointsTo_share (PosShare.mem_left_op_right fullShare)
omit [FloatOps F] in
theorem l_halves (s) (c : Dev nD) (f : Buf (Elt F) (lLoc c)) : (lPts s fullShare c f : sProp 𝕄) ⊣⊢ iprop(lPts s fullShare.left c f ∗ lPts s fullShare.right c f) :=
  pointsTo_share (PosShare.mem_left_op_right fullShare)
omit [FloatOps F] in
theorem e_halves (c : Dev nD) : (eLoc c ↦{fullShare} eS m ρ c : sProp 𝕄) ⊣⊢ iprop((eLoc c ↦{fullShare.left} eS m ρ c) ∗ (eLoc c ↦{fullShare.right} eS m ρ c)) :=
  pointsTo_share (PosShare.mem_left_op_right fullShare)

/-! ## What a copy leaves behind -/

theorem rM0_emb (j : S2x512x1024.Idx) : (rM0).view.emb j = (ix4 0 (j 0) (j 1) (j 2) : S2x2x512x1024.Idx) := by
  show q0.emb (Shape.reshapeEquiv _ j) = _
  conv_lhs => rw [eq_ix3 j]
  refine (congrArg q0.emb (reshapeEquiv_ix3_1abc (a := 2) (b := 512) (c := 1024) _ _ _ _)).trans ?_
  funext a; apply Fin.ext; rw [Rect.emb_apply]; fin_cases a <;> simp
theorem rM1_emb (j : S2x512x1024.Idx) : (rM1).view.emb j = (ix4 1 (j 0) (j 1) (j 2) : S2x2x512x1024.Idx) := by
  show q1.emb (Shape.reshapeEquiv _ j) = _
  conv_lhs => rw [eq_ix3 j]
  refine (congrArg q1.emb (reshapeEquiv_ix3_1abc (a := 2) (b := 512) (c := 1024) _ _ _ _)).trans ?_
  funext a; apply Fin.ext; rw [Rect.emb_apply]; fin_cases a <;> simp
theorem lM0_emb (j : S2x512x1024.Idx) : (lM0).view.emb j = (ix4 0 (j 0) (j 1) (j 2) : S2x2x512x1024.Idx) := rM0_emb j
theorem lM1_emb (j : S2x512x1024.Idx) : (lM1).view.emb j = (ix4 1 (j 0) (j 1) (j 2) : S2x2x512x1024.Idx) := rM1_emb j
set_option backward.proofsInPublic true in
theorem eM0_emb (j : S2x512x1024.Idx) : (eM0).view.emb j = (ix3 ⟨(j 0).val, Nat.lt_trans (j 0).isLt (by decide)⟩ (j 1) (j 2) : S4x512x1024.Idx) := by
  show h0.emb j = _
  funext a; apply Fin.ext; rw [Rect.emb_apply]; fin_cases a <;> simp
set_option backward.proofsInPublic true in
theorem eM1_emb (j : S2x512x1024.Idx) : (eM1).view.emb j = (ix3 ⟨(j 0).val + 2, Nat.add_lt_add_right (m := 2) (j 0).isLt 2⟩ (j 1) (j 2) : S4x512x1024.Idx) := by
  show h1.emb j = _
  funext a; apply Fin.ext; rw [Rect.emb_apply]; fin_cases a <;> simp [Nat.add_comm]

omit [FloatOps F] in
/-- Hop 0 to the right leaves the first two experts in slot 0. -/
theorem land_r0 (c : Dev nD) (fd : (cc0_scratch0 : Ref sig .tc).ty.Contents (Elt F)) :
    ∀ i ∈ (rM0).view.set, (rM0).view.write (Elt F) fd ((eM0).view.read (Elt F) (eS m ρ c)) Finset.univ i = RC m ρ c i := by
  intro i hi
  obtain ⟨j, rfl⟩ := View.exists_emb_of_mem_set _ hi
  refine (View.write_emb_of_mem _ _ (Finset.mem_univ j)).trans ?_
  show eS m ρ c ((eM0).view.emb j) = RC m ρ c ((rM0).view.emb j)
  rw [eM0_emb, rM0_emb]; rfl
omit [FloatOps F] in
theorem land_l0 (c : Dev nD) (fd : (cc0_scratch1 : Ref sig .tc).ty.Contents (Elt F)) :
    ∀ i ∈ (lM0).view.set, (lM0).view.write (Elt F) fd ((eM1).view.read (Elt F) (eS m ρ c)) Finset.univ i = LC m ρ c i := by
  intro i hi
  obtain ⟨j, rfl⟩ := View.exists_emb_of_mem_set _ hi
  refine (View.write_emb_of_mem _ _ (Finset.mem_univ j)).trans ?_
  show eS m ρ c ((eM1).view.emb j) = LC m ρ c ((lM0).view.emb j)
  rw [eM1_emb, lM0_emb]; rfl
omit [FloatOps F] in
/-- A hop from slot to slot leaves what the source slot held. -/
theorem land_r1 (c : Dev nD) (fd : (cc0_scratch0 : Ref sig .tc).ty.Contents (Elt F)) :
    ∀ i ∈ (rM1).view.set, (rM1).view.write (Elt F) fd ((rM0).view.read (Elt F) (RC m ρ c)) Finset.univ i = RC m ρ c i := by
  intro i hi
  obtain ⟨j, rfl⟩ := View.exists_emb_of_mem_set _ hi
  refine (View.write_emb_of_mem _ _ (Finset.mem_univ j)).trans ?_
  show RC m ρ c ((rM0).view.emb j) = RC m ρ c ((rM1).view.emb j)
  rw [rM0_emb, rM1_emb]; rfl
omit [FloatOps F] in
theorem land_l1 (c : Dev nD) (fd : (cc0_scratch1 : Ref sig .tc).ty.Contents (Elt F)) :
    ∀ i ∈ (lM1).view.set, (lM1).view.write (Elt F) fd ((lM0).view.read (Elt F) (LC m ρ c)) Finset.univ i = LC m ρ c i := by
  intro i hi
  obtain ⟨j, rfl⟩ := View.exists_emb_of_mem_set _ hi
  refine (View.write_emb_of_mem _ _ (Finset.mem_univ j)).trans ?_
  show LC m ρ c ((lM0).view.emb j) = LC m ρ c ((lM1).view.emb j)
  rw [lM0_emb, lM1_emb]; rfl
omit [FloatOps F] in
theorem land_r2 (c : Dev nD) (fd : (cc0_scratch0 : Ref sig .tc).ty.Contents (Elt F)) :
    ∀ i ∈ (rM0).view.set, (rM0).view.write (Elt F) fd ((rM1).view.read (Elt F) (RC m ρ c)) Finset.univ i = RC m ρ c i := by
  intro i hi
  obtain ⟨j, rfl⟩ := View.exists_emb_of_mem_set _ hi
  refine (View.write_emb_of_mem _ _ (Finset.mem_univ j)).trans ?_
  show RC m ρ c ((rM1).view.emb j) = RC m ρ c ((rM0).view.emb j)
  rw [rM0_emb, rM1_emb]; rfl
omit [FloatOps F] in
theorem land_l2 (c : Dev nD) (fd : (cc0_scratch1 : Ref sig .tc).ty.Contents (Elt F)) :
    ∀ i ∈ (lM0).view.set, (lM0).view.write (Elt F) fd ((lM1).view.read (Elt F) (LC m ρ c)) Finset.univ i = LC m ρ c i := by
  intro i hi
  obtain ⟨j, rfl⟩ := View.exists_emb_of_mem_set _ hi
  refine (View.write_emb_of_mem _ _ (Finset.mem_univ j)).trans ?_
  show LC m ρ c ((lM1).view.emb j) = LC m ρ c ((lM0).view.emb j)
  rw [lM0_emb, lM1_emb]; rfl

/-! ## The semaphores -/

/-- The barrier semaphore of the collective. -/
abbrev barS : Sem sig := (SemArray.scalar (sig.barrier 0 rfl) : Sems sig S_).sem
/-- The semaphore by which the neighbours give back slot 0. -/
abbrev freeS : Sem sig := cc0_scratch6.sem

/-- The fourteen semaphores of a device: barrier, give-back, then three sends right, three receipts right, three sends left,
    three receipts left. -/
abbrev osem : Fin 14 → SemLoc sig := fun
  | 0 => .reg barS | 1 => .reg freeS
  | 2 => .dma ⟨6, by decide⟩ | 3 => .dma ⟨7, by decide⟩ | 4 => .dma ⟨8, by decide⟩
  | 5 => .dma ⟨9, by decide⟩ | 6 => .dma ⟨10, by decide⟩ | 7 => .dma ⟨11, by decide⟩
  | 8 => .dma ⟨12, by decide⟩ | 9 => .dma ⟨13, by decide⟩ | 10 => .dma ⟨14, by decide⟩
  | 11 => .dma ⟨15, by decide⟩ | 12 => .dma ⟨16, by decide⟩ | 13 => .dma ⟨17, by decide⟩
abbrev kcell (ck : Dev nD × Fin 14) : GSem nD τ sig := ((ck.1 : Thread nD τ), osem ck.2)

/-- Which of the fourteen a semaphore is, if any. -/
def kof (sm : SemLoc sig) : Option (Fin 14) := (List.finRange 14).find? fun k => decide (osem k = sm)
theorem kof_osem : ∀ k : Fin 14, kof (osem k) = some k := by decide

theorem slice_sR0 : ((cc0_scratch2.slice (Rect.unit (s := S3) ![0] ![1] inb_S3_S1_0)).squeeze S_ squeezes_S1_S_).sem = ⟨6, by decide⟩ := rfl
theorem slice_sR1 : ((cc0_scratch2.slice (Rect.unit (s := S3) ![1] ![1] inb_S3_S1_1)).squeeze S_ squeezes_S1_S_).sem = ⟨7, by decide⟩ := rfl
theorem slice_sR2 : ((cc0_scratch2.slice (Rect.unit (s := S3) ![2] ![1] inb_S3_S1_2)).squeeze S_ squeezes_S1_S_).sem = ⟨8, by decide⟩ := rfl
theorem slice_vR0 : ((cc0_scratch3.slice (Rect.unit (s := S3) ![0] ![1] inb_S3_S1_0)).squeeze S_ squeezes_S1_S_).sem = ⟨9, by decide⟩ := rfl
theorem slice_vR1 : ((cc0_scratch3.slice (Rect.unit (s := S3) ![1] ![1] inb_S3_S1_1)).squeeze S_ squeezes_S1_S_).sem = ⟨10, by decide⟩ := rfl
theorem slice_vR2 : ((cc0_scratch3.slice (Rect.unit (s := S3) ![2] ![1] inb_S3_S1_2)).squeeze S_ squeezes_S1_S_).sem = ⟨11, by decide⟩ := rfl
theorem slice_sL0 : ((cc0_scratch4.slice (Rect.unit (s := S3) ![0] ![1] inb_S3_S1_0)).squeeze S_ squeezes_S1_S_).sem = ⟨12, by decide⟩ := rfl
theorem slice_sL1 : ((cc0_scratch4.slice (Rect.unit (s := S3) ![1] ![1] inb_S3_S1_1)).squeeze S_ squeezes_S1_S_).sem = ⟨13, by decide⟩ := rfl
theorem slice_sL2 : ((cc0_scratch4.slice (Rect.unit (s := S3) ![2] ![1] inb_S3_S1_2)).squeeze S_ squeezes_S1_S_).sem = ⟨14, by decide⟩ := rfl
theorem slice_vL0 : ((cc0_scratch5.slice (Rect.unit (s := S3) ![0] ![1] inb_S3_S1_0)).squeeze S_ squeezes_S1_S_).sem = ⟨15, by decide⟩ := rfl
theorem slice_vL1 : ((cc0_scratch5.slice (Rect.unit (s := S3) ![1] ![1] inb_S3_S1_1)).squeeze S_ squeezes_S1_S_).sem = ⟨16, by decide⟩ := rfl
theorem slice_vL2 : ((cc0_scratch5.slice (Rect.unit (s := S3) ![2] ![1] inb_S3_S1_2)).squeeze S_ squeezes_S1_S_).sem = ⟨17, by decide⟩ := rfl

/-- The credit of one copy. -/
def N : ℕ := (rM0).view.dmaCredit
theorem N_pos : 0 < N := View.dmaCredit_pos _ (by decide)

/-! ## The schedule: one round per semaphore -/

/-- What a wait on semaphore `k` of device `c` hands over, by the duty that pays it. -/
def pay (c : Dev nD) (k : Fin 14) (d : Bool) : sProp 𝕄 := match k with
  | 0 => if d then iprop(∃ f, rLoc (nxt c) ↦{fullShare} f) else iprop(∃ f, lLoc (prv c) ↦{fullShare} f)
  | 1 => if d then iprop(∃ f, rPts 0 fullShare (nxt c) f) else iprop(∃ f, lPts 0 fullShare (prv c) f)
  | 2 => ePts m ρ 0 fullShare.right c
  | 3 => rPts 0 fullShare.right c (RC m ρ (prv c))
  | 4 => rPts 1 fullShare.right c (RC m ρ (prv (prv c)))
  | 5 => rPts 0 fullShare c (RC m ρ (prv c))
  | 6 => rPts 1 fullShare c (RC m ρ (prv (prv c)))
  | 7 => rPts 0 fullShare c (RC m ρ (prv (prv (prv c))))
  | 8 => ePts m ρ 1 fullShare.right c
  | 9 => lPts 0 fullShare.right c (LC m ρ (nxt c))
  | 10 => lPts 1 fullShare.right c (LC m ρ (nxt (nxt c)))
  | 11 => lPts 0 fullShare c (LC m ρ (nxt c))
  | 12 => lPts 1 fullShare c (LC m ρ (nxt (nxt c)))
  | 13 => lPts 0 fullShare c (LC m ρ (nxt (nxt (nxt c))))

omit [FloatOps F] in
instance pay_storable (c : Dev nD) (k : Fin 14) (d : Bool) : BI.Storable (upEmb : UEmb _ 𝕄) (pay (F := F) m ρ c k d) := by
  unfold pay; split <;> (try split) <;> infer_instance

def dut (k : Fin 14) : Finset Bool := if k.val < 2 then Finset.univ else {false}
def amt (k : Fin 14) : ℕ := if k.val < 2 then 1 else N

def sched : Rounds.Schedule (GSem nD τ sig) Bool 𝕄 where
  duties g r := if r = 0 ∧ g.1.2 = .tc then (match kof g.2 with | some k => dut k | none => ∅) else ∅
  unitless _ := False
  amount g _ _ := match kof g.2 with | some k => amt k | none => 1
  payload g _ d := match kof g.2 with | some k => pay m ρ g.1.1 k d | none => iprop(emp)
  amount_pos g _ _ _ := by
    split
    · unfold amt; split
      · exact Nat.one_pos
      · exact N_pos
    · exact Nat.one_pos

instance sched_payload_storable (g : GSem nD τ sig) (r : ℕ) (d : Bool) :
    BI.Storable (upEmb : UEmb _ 𝕄) ((sched (F := F) m ρ).payload g r d) := by
  show BI.Storable upEmb (match kof g.2 with | some k => pay m ρ g.1.1 k d | none => iprop(emp))
  split <;> infer_instance

omit [FloatOps F] in
theorem duties_k (c : Dev nD) (k : Fin 14) : (sched (F := F) m ρ).duties (kcell (c, k)) 0 = dut k := by
  dsimp only [sched]; rw [if_pos (show 0 = 0 ∧ (kcell (c, k)).1.2 = .tc from ⟨rfl, rfl⟩)]
  show (match kof (osem k) with | some k => dut k | none => ∅) = _
  rw [kof_osem]
omit [FloatOps F] in
theorem duties_later (g : GSem nD τ sig) : ∀ r, 1 ≤ r → (sched (F := F) m ρ).duties g r = ∅ :=
  fun r hr => if_neg fun h => by omega
omit [FloatOps F] in
theorem amount_k (c : Dev nD) (k : Fin 14) (d : Bool) : (sched (F := F) m ρ).amount (kcell (c, k)) 0 d = amt k := by
  show (match kof (osem k) with | some k => amt k | none => 1) = _
  rw [kof_osem]
omit [FloatOps F] in
theorem payload_k (c : Dev nD) (k : Fin 14) (d : Bool) : (sched (F := F) m ρ).payload (kcell (c, k)) 0 d = pay m ρ c k d := by
  show (match kof (osem k) with | some k' => pay m ρ c k' d | none => iprop(emp)) = _
  rw [kof_osem]
omit [FloatOps F] in
theorem expect_low (c : Dev nD) (k : Fin 14) (hk : k.val < 2) : (sched (F := F) m ρ).expect (kcell (c, k)) 0 = 2 := by
  unfold Schedule.expect Schedule.amountOf
  rw [Finset.sum_congr rfl fun d _ => amount_k m ρ c k d, duties_k, Finset.sum_const]
  unfold dut amt
  rw [if_pos hk, if_pos hk]; rfl
omit [FloatOps F] in
theorem expect_high (c : Dev nD) (k : Fin 14) (hk : ¬ k.val < 2) : (sched (F := F) m ρ).expect (kcell (c, k)) 0 = N := by
  unfold Schedule.expect Schedule.amountOf
  rw [Finset.sum_congr rfl fun d _ => amount_k m ρ c k d, duties_k, Finset.sum_const]
  unfold dut amt
  rw [if_neg hk, if_neg hk, Finset.card_singleton, one_smul]
omit [FloatOps F] in
/-- What a wait for the whole round of a two-duty semaphore hands over. -/
theorem rest_low (c : Dev nD) (k : Fin 14) (hk : k.val < 2) :
    bigSep ((sched (F := F) m ρ).duties (kcell (c, k)) 0 \ ∅) (fun d => (sched (F := F) m ρ).payload (kcell (c, k)) 0 d) = iprop(pay m ρ c k false ∗ pay m ρ c k true) := by
  rw [Finset.sdiff_empty, duties_k]
  unfold dut
  rw [if_pos hk, bigSep_univ_eq_bigSepL [false, true] (by decide) (by decide), bigSepL_cons_cons, bigSepL_singleton, payload_k, payload_k]
  rfl
omit [FloatOps F] in
theorem rest_high (c : Dev nD) (k : Fin 14) (hk : ¬ k.val < 2) :
    bigSep ((sched (F := F) m ρ).duties (kcell (c, k)) 0 \ ∅) (fun d => (sched (F := F) m ρ).payload (kcell (c, k)) 0 d) = pay m ρ c k false := by
  rw [Finset.sdiff_empty, duties_k]
  unfold dut
  rw [if_neg hk, bigSep_singleton, payload_k]

/-! ## What a device owes; the levels -/

/-- The device a debt is owed to: the left neighbour for `true`, the right one for `false`. -/
def tg (b : Bool) (c : Dev nD) : Dev nD := if b then prv c else nxt c
/-- The debts, in the order in which the kernel pays them. -/
def oweL : List (Fin 14 × Bool) := [(0, true), (0, false), (5, false), (11, true), (6, false), (12, true), (1, true), (1, false), (7, false), (13, true)]
def Osum (c : Dev nD) (l : List (Fin 14 × Bool)) : CellTallies nD τ sig Unit := l.foldr (fun p a => a + tallyAt (kcell (tg p.2 c, p.1)) () (amt p.1)) 0
/-- What is owed after the first `n` debts are paid. -/
def owe (c : Dev nD) (n : ℕ) : CellTallies nD τ sig Unit := Osum c (oweL.drop n)

theorem Osum_pos {c : Dev nD} {l : List (Fin 14 × Bool)} {g : GSem nD τ sig} {u : Unit} (h : 0 < Osum c l g u) : ∃ p ∈ l, g = kcell (tg p.2 c, p.1) := by
  induction l with
  | nil => exact absurd h (Nat.lt_irrefl 0)
  | cons p l ih =>
    have h' : 0 < Osum c l g u + tallyAt (kcell (tg p.2 c, p.1)) () (amt p.1) g u := h
    rw [tallyAt_apply] at h'
    by_cases hg : g = kcell (tg p.2 c, p.1)
    · exact ⟨p, List.mem_cons_self, hg⟩
    · rw [if_neg (fun h2 => hg h2.1), Nat.add_zero] at h'
      obtain ⟨p', hp', e⟩ := ih h'
      exact ⟨p', List.mem_cons_of_mem _ hp', e⟩

def lvK : Fin 14 → ℕ := ![1, 4, 0, 0, 0, 2, 3, 5, 0, 0, 0, 2, 3, 5]
def L (g : GSem nD τ sig) : Finset Unit := if g.1.2 = .tc then {()} else ∅
def lv (g : GSem nD τ sig) (_ : Unit) : ℕ := match kof g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 14) (u : Unit) : lv (kcell (c, k)) u = lvK k := by
  show (match kof (osem k) with | some k => lvK k | none => 0) = _
  rw [kof_osem]

omit [FloatOps F] in
/-- A device may wait on `sm` while all it still owes stands above it. -/
theorem mayWait_gen (c : Dev nD) (sm : SemLoc sig) (b : ℕ) (hb : lv (((c : Dev nD) : Thread nD τ), sm) () = b) (n : ℕ) (h : ∀ p ∈ oweL.drop n, b < lvK p.1) :
    (levAts L lv : sProp 𝕄) ⊢ MayWait (c : Thread nD τ) sm () (owe c n) :=
  MayOwe.of_cut (L := L) (lev := lv) b (fun p hp => by rw [Finset.mem_singleton.mp hp, L_tc]; exact Finset.mem_singleton_self _)
    (fun g u hg => by obtain ⟨p, -, rfl⟩ := Osum_pos hg; exact Finset.mem_singleton_self _)
    (fun p hp => by rw [Finset.mem_singleton.mp hp, hb])
    (fun g u hg => by obtain ⟨p, hp, rfl⟩ := Osum_pos hg; rw [lv_k]; exact h p hp)

omit [FloatOps F] in
theorem mayWait_k (c : Dev nD) (k : Fin 14) (n : ℕ) (h : ∀ p ∈ oweL.drop n, lvK k < lvK p.1) :
    (levAts L lv : sProp 𝕄) ⊢ MayWait (c : Thread nD τ) (osem k) () (owe c n) := mayWait_gen c (osem k) _ (lv_k c k ()) n h

/-! ## What the kernel computes -/

abbrev r0 : Rect S2048x1024 := Rect.unit (s := S2048x1024) ![0, 0] S2048x1024.size inb_S2048x1024_S2048x1024_0_0

/-- The place of device `c` in the ring, as the kernel computes it. -/
def pos (c : Dev nD) : BitVec 32 := Scalar.remsi (Scalar.divsi (Dev.word c) 1#32) 4#32
def pos1 (c : Dev nD) : BitVec 32 := Scalar.remsi (Scalar.addi (pos c) 1#32) 4#32
def pos2 (c : Dev nD) : BitVec 32 := Scalar.remsi (Scalar.addi (pos c) 2#32) 4#32
def pos3 (c : Dev nD) : BitVec 32 := Scalar.remsi (Scalar.addi (pos c) 3#32) 4#32

def xx (c : Dev nD) : FVec F S2048x512 .bf16 := k0_pay2 (xS m ρ c)
def ix (c : Dev nD) : IVec S2048x1 32 := k0_pay3 (F := F) (iS m ρ c)
def gt (c : Dev nD) : FVec F S2048x1 .f32 := k0_pay4 (xS m ρ c) (iS m ρ c) (wS m ρ c)

/-- The experts the kernel reads out of its own staging buffer, and out of the slots of the receive buffers. -/
abbrev eW0 (f : (cc0_stg3_0 : Ref sig .tc).ty.Contents (Elt F)) : Vec F S1x512x1024 .bf16 := (eM).view.readAt (Elt F) (Rect.unit (s := S4x512x1024) ![0, 0, 0] S1x512x1024.size inb_S4x512x1024_S1x512x1024_0_0_0).toLoadRect f
abbrev eW1 (f : (cc0_stg3_0 : Ref sig .tc).ty.Contents (Elt F)) : Vec F S1x512x1024 .bf16 := (eM).view.readAt (Elt F) (Rect.unit (s := S4x512x1024) ![1, 0, 0] S1x512x1024.size inb_S4x512x1024_S1x512x1024_1_0_0).toLoadRect f
abbrev eW2 (f : (cc0_stg3_0 : Ref sig .tc).ty.Contents (Elt F)) : Vec F S1x512x1024 .bf16 := (eM).view.readAt (Elt F) (Rect.unit (s := S4x512x1024) ![2, 0, 0] S1x512x1024.size inb_S4x512x1024_S1x512x1024_2_0_0).toLoadRect f
abbrev eW3 (f : (cc0_stg3_0 : Ref sig .tc).ty.Contents (Elt F)) : Vec F S1x512x1024 .bf16 := (eM).view.readAt (Elt F) (Rect.unit (s := S4x512x1024) ![3, 0, 0] S1x512x1024.size inb_S4x512x1024_S1x512x1024_3_0_0).toLoadRect f
abbrev a00 : Rect S2x2x512x1024 := Rect.unit (s := S2x2x512x1024) ![0, 0, 0, 0] S1x1x512x1024.size inb_S2x2x512x1024_S1x1x512x1024_0_0_0_0
abbrev a01 : Rect S2x2x512x1024 := Rect.unit (s := S2x2x512x1024) ![0, 1, 0, 0] S1x1x512x1024.size inb_S2x2x512x1024_S1x1x512x1024_0_1_0_0
abbrev a10 : Rect S2x2x512x1024 := Rect.unit (s := S2x2x512x1024) ![1, 0, 0, 0] S1x1x512x1024.size inb_S2x2x512x1024_S1x1x512x1024_1_0_0_0
abbrev a11 : Rect S2x2x512x1024 := Rect.unit (s := S2x2x512x1024) ![1, 1, 0, 0] S1x1x512x1024.size inb_S2x2x512x1024_S1x1x512x1024_1_1_0_0
abbrev rW (r : Rect S2x2x512x1024) (f : (cc0_scratch0 : Ref sig .tc).ty.Contents (Elt F)) := (rM).view.readAt (Elt F) r.toLoadRect f
abbrev lW (r : Rect S2x2x512x1024) (f : (cc0_scratch1 : Ref sig .tc).ty.Contents (Elt F)) := (lM).view.readAt (Elt F) r.toLoadRect f

/-- The result buffer after the shared weights, after the device's own experts, after each hop. -/
def acc0 (c : Dev nD) : FVec F S2048x1024 .f32 := k0_pay5 (xS m ρ c) (hS m ρ c)
def acc2 (c : Dev nD) (v : FVec F S2048x1024 .f32) : FVec F S2048x1024 .f32 :=
  k0_pay7 (pos c) (xx m ρ c) (ix m ρ c) (gt m ρ c) (k0_pay6 (xx m ρ c) (ix m ρ c) (gt m ρ c) (Scalar.muli (pos c) 4#32) 0#32 v (eW0 (eS m ρ c))) (eW1 (eS m ρ c))
def acc4 (c : Dev nD) (v : FVec F S2048x1024 .f32) : FVec F S2048x1024 .f32 :=
  k0_pay9 (pos c) (xx m ρ c) (ix m ρ c) (gt m ρ c) (k0_pay8 (xx m ρ c) (ix m ρ c) (gt m ρ c) (Scalar.muli (pos c) 4#32) 0#32 v (eW2 (eS m ρ c))) (eW3 (eS m ρ c))
def acc6 (c : Dev nD) (v : FVec F S2048x1024 .f32) : FVec F S2048x1024 .f32 :=
  k0_pay11 (xx m ρ c) (ix m ρ c) (gt m ρ c) (pos3 c)
    (k0_pay10 (xx m ρ c) (ix m ρ c) (gt m ρ c) (Scalar.muli (pos3 c) 4#32) 0#32 v (rW a00 (RC m ρ (prv c)))) (rW a01 (RC m ρ (prv c)))
def acc8 (c : Dev nD) (v : FVec F S2048x1024 .f32) : FVec F S2048x1024 .f32 :=
  k0_pay15 (k0_pay13 (k0_pay12 (pos c) (xx m ρ c) (ix m ρ c) (gt m ρ c) 1#32 v (lW a00 (LC m ρ (nxt c)))))
    (k0_pay14 (pos c) (xx m ρ c) (ix m ρ c) (gt m ρ c) 1#32 (lW a01 (LC m ρ (nxt c))))
def acc10 (c : Dev nD) (v : FVec F S2048x1024 .f32) : FVec F S2048x1024 .f32 :=
  k0_pay17 (xx m ρ c) (ix m ρ c) (gt m ρ c) (pos2 c) 4#32
    (k0_pay16 (pos c) (xx m ρ c) (ix m ρ c) (gt m ρ c) v (rW a10 (RC m ρ (prv (prv c))))) (rW a11 (RC m ρ (prv (prv c))))
def acc12 (c : Dev nD) (v : FVec F S2048x1024 .f32) : FVec F S2048x1024 .f32 :=
  k0_pay21 (xx m ρ c) (ix m ρ c) (gt m ρ c) (pos2 c)
    (k0_pay20 (k0_pay18 v) (k0_pay19 (pos c) (xx m ρ c) (ix m ρ c) (gt m ρ c) (lW a10 (LC m ρ (nxt (nxt c)))))) (lW a11 (LC m ρ (nxt (nxt c))))
def acc14 (c : Dev nD) (v : FVec F S2048x1024 .f32) : FVec F S2048x1024 .f32 :=
  k0_pay23 (xx m ρ c) (ix m ρ c) (gt m ρ c) (pos1 c)
    (k0_pay22 (xx m ρ c) (ix m ρ c) (gt m ρ c) (Scalar.muli (pos1 c) 4#32) v (rW a00 (RC m ρ (prv (prv (prv c)))))) (rW a01 (RC m ρ (prv (prv (prv c)))))
def acc16 (c : Dev nD) (v : FVec F S2048x1024 .f32) : FVec F S2048x1024 .f32 :=
  k0_pay1 (k0_pay25 (k0_pay24 (pos c) (xx m ρ c) (ix m ρ c) (gt m ρ c) v (lW a00 (LC m ρ (nxt (nxt (nxt c)))))))
    (k0_pay26 (pos c) (xx m ρ c) (ix m ρ c) (gt m ρ c)) (k0_pay27 (lW a01 (LC m ρ (nxt (nxt (nxt c)))))) (constant S2048x1024 .f32 0x00000000#32)

/-- What device `c` leaves in the result's staging buffer. -/
def outAt (c : Dev nD) : (cc0_stg5_0 : Ref sig .tc).ty.Contents (Elt F) :=
  acc16 m ρ c (acc14 m ρ c (acc12 m ρ c (acc10 m ρ c (acc8 m ρ c (acc6 m ρ c (acc4 m ρ c (acc2 m ρ c (acc0 m ρ c))))))))

/-! ## The pipeline's proof data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The persistent records: every cell's invariant, every cell at its round 0. -/
def records (K : Dev nD × Fin 14 → ℕ) : sProp 𝕄 :=
  iprop((bigSep Finset.univ fun ck : Dev nD × Fin 14 => cellInv ER (sched m ρ) (K ck) (kcell ck))
    ∗ bigSep Finset.univ fun ck : Dev nD × Fin 14 => reached ER (kcell ck) 0)
instance records_persistent (K : Dev nD × Fin 14 → ℕ) : BI.Persistent (records m ρ K) := by unfold records; infer_instance

omit [FloatOps F] in
theorem inv_at (K : Dev nD × Fin 14 → ℕ) (ck : Dev nD × Fin 14) : (records m ρ K : sProp 𝕄) ⊢ cellInv ER (sched m ρ) (K ck) (kcell ck) := by
  unfold records
  exact (BI.sep_and.trans BI.and_elimL).trans (bigSep_elim (Finset.mem_univ ck))
omit [FloatOps F] in
theorem reached_at (K : Dev nD × Fin 14 → ℕ) (ck : Dev nD × Fin 14) : (records m ρ K : sProp 𝕄) ⊢ reached ER (kcell ck) 0 := by
  unfold records
  exact (BI.sep_and.trans BI.and_elimR).trans (bigSep_elim (Finset.mem_univ ck))

/-- The sixteen duties of a device's semaphores, and the device that pays each: the neighbour it comes from, or itself. -/
def tk : Fin 16 → Fin 14 × Bool := ![(0, true), (0, false), (1, true), (1, false), (2, false), (3, false), (4, false), (5, false), (6, false), (7, false),
  (8, false), (9, false), (10, false), (11, false), (12, false), (13, false)]
def perm : Fin 16 → Dev nD ≃ Dev nD := ![ring.symm, ring, ring.symm, ring, Equiv.refl _, Equiv.refl _, Equiv.refl _, ring, ring, ring,
  Equiv.refl _, Equiv.refl _, Equiv.refl _, ring.symm, ring.symm, ring.symm]
/-- The token of duty `j` on a semaphore of device `c`. -/
def tok (j : Fin 16) (c : Dev nD) : sProp 𝕄 := dutyTok ER (kcell (c, (tk j).1)) 0 (tk j).2
/-- The tokens device `c` pays with. -/
def payToks (c : Dev nD) : sProp 𝕄 := bigSep Finset.univ fun j : Fin 16 => tok j (perm j c)

/-- The device's place at its own fourteen cells, and its tokens. -/
def linear (c : Dev nD) : sProp 𝕄 := iprop((bigSep Finset.univ fun k : Fin 14 => atPos ER (kcell (c, k)) 0 ∅ 0) ∗ payToks c)

/-- The units a device is to wait for, by semaphore. -/
def want : Fin 14 → ℕ := fun k => if k.val < 2 then 2 else if 5 ≤ k.val ∧ k.val ≤ 7 ∨ 11 ≤ k.val then N else 0
def creds (c : Dev nD) : sProp 𝕄 :=
  iprop(cred (tallyAt (kcell (c, 0)) () 2) ∗ cred (tallyAt (kcell (c, 1)) () 2) ∗ cred (tallyAt (kcell (c, 5)) () N) ∗ cred (tallyAt (kcell (c, 6)) () N) ∗ cred (tallyAt (kcell (c, 7)) () N)
    ∗ cred (tallyAt (kcell (c, 11)) () N) ∗ cred (tallyAt (kcell (c, 12)) () N) ∗ cred (tallyAt (kcell (c, 13)) () N))

def start (c : Dev nD) : sProp 𝕄 := iprop((∃ K, records m ρ K ∗ linear c) ∗ creds c ∗ levAts L lv)

def Φ₀ (c : Dev nD) : sProp 𝕄 := iprop(start m ρ c ∗ (∃ f, rLoc c ↦{fullShare} f) ∗ ∃ f, lLoc c ↦{fullShare} f)
def Φ₁ (c : Dev nD) : sProp 𝕄 :=
  iprop((∃ f, rLoc c ↦{fullShare} f) ∗ (∃ f, lLoc c ↦{fullShare} f) ∗ bigSep Finset.univ fun k : Fin 14 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => wS m ρ c
    | ⟨2, _⟩ => iS m ρ c
    | ⟨3, _⟩ => eS m ρ c
    | ⟨4, _⟩ => hS m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owe c 0
    | ⟨_ + 1, _⟩ => 0

abbrev 𝒱₀ : Variants := Variants.none

end Cert.KernelIdeal.Moe
-- ==== Proof.Ideal.Steps.lean ====
/-
One lemma for each kind of step the kernel takes: a signal to a neighbour, a wait for both neighbours, a copy to a
neighbour, a wait for a copy, and one expert's contribution added into the result buffer.
-/
module

public import proofs.«01_k».proof.Proof.Ideal.Proto

@[expose] public section

noncomputable section

namespace Cert.KernelIdeal.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × Fin 14 → ℕ)

/-- What device `c` still owes after its first `j` debts are paid, whatever it has waited on. -/
def ow (c : Dev nD) (j : ℕ) : sProp 𝕄 := iprop(∃ W, owes (c : Thread nD τ) (owe c j) W)

theorem owe_step (c : Dev nD) (j : ℕ) (k : Fin 14) (b : Bool) (hj : oweL.drop j = (k, b) :: oweL.drop (j + 1)) :
    owe c j = owe c (j + 1) + tallyAt (kcell (tg b c, k)) () (amt k) := by
  unfold owe; rw [hj]; rfl

/-- A signal to a neighbour pays a debt and hands over what the neighbour waits for. -/
theorem wp_sig (c n : Dev nD) (b : Bool) (hn : n = tg b c) (k : Fin 14) (s : Sem sig) (hs : osem k = .reg s) (hk : k.val < 2) (j : ℕ)
    (hj : oweL.drop j = (k, b) :: oweL.drop (j + 1)) (w : Int) (hw : w = ((1 : ℕ) : Int)) {α : Type} {Q : α → sProp 𝕄} {kk : PUnit → Prog (TpuEff nD τ sig (Elt F) Λ₀ .tc) α} :
    iprop(records m ρ K ∗ ow c j ∗ dutyTok ER (kcell (tg b c, k)) 0 b ∗ pay m ρ (tg b c) k b)
      ⊢ iprop((ow c (j + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) s w) kk) Q) := by
  subst hn hw
  have e : kcell (tg b c, k) = ((tg b c : Thread nD τ), SemLoc.reg s) := congrArg (Prod.mk _) hs
  unfold ow
  iintro ⟨#HR, ⟨%W, HO⟩, Ht, Hp⟩ Hk
  ihave #HI := (inv_at m ρ K (tg b c, k)) $$ HR
  ihave #Hr := (reached_at m ρ K (tg b c, k)) $$ HR
  have hd := duties_k m ρ (tg b c) k
  have ha := amount_k m ρ (tg b c) k b
  have hp := payload_k m ρ (tg b c) k b
  rw [owe_step c j k b hj]
  rw [e] at hd ha hp ⊢
  have hd' : b ∈ (sched m ρ).duties ((tg b c : Thread nD τ), SemLoc.reg s) 0 := by rw [hd]; unfold dut; rw [if_pos hk]; exact Finset.mem_univ _
  have ha' : (sched m ρ).amount ((tg b c : Thread nD τ), SemLoc.reg s) 0 b = 1 := ha.trans (if_pos hk)
  have ho : amt k = 1 := if_pos hk
  rw [ho]
  iapply (Rounds.wp_signal 𝒱₀ ER (sched m ρ) (c : Thread nD τ) none (κ := K (tg b c, k)) hd' ha' () (owe c (j + 1)) rfl) $$ [HO Ht Hp]
  · isplitr; · iexact HI
    isplitl [HO]; · iexact HO
    isplitl [Ht]; · iexact Ht
    isplitl [Hp]; · rw [hp]; iexact Hp
    iexact Hr
  iintro HO
  iapply Hk
  iexists W; iexact HO

/-- A wait for both neighbours' signals takes what both hand over and ends the semaphore's use. -/
theorem wp_both (c : Dev nD) (k : Fin 14) (s : Sem sig) (hs : osem k = .reg s) (hk : k.val < 2) (j : ℕ)
    (hlv : ∀ p ∈ oweL.drop j, lvK k < lvK p.1) (w : ℕ) (hw : w = 2) {α : Type} {Q : α → sProp 𝕄} {kk : PUnit → Prog (TpuEff nD τ sig (Elt F) Λ₀ .tc) α} :
    iprop(records m ρ K ∗ levAts L lv ∗ cred (tallyAt (kcell (c, k)) () 2) ∗ ow c j ∗ atPos ER (kcell (c, k)) 0 ∅ 0)
      ⊢ iprop(((ow c j ∗ semVal (kcell (c, k)) 0 ∗ pay m ρ c k false ∗ pay m ρ c k true) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait s w) kk) Q) := by
  subst hw
  have e : kcell (c, k) = ((c : Thread nD τ), SemLoc.reg s) := congrArg (Prod.mk _) hs
  have hm := mayWait_k (F := F) c k j hlv
  have he := expect_low m ρ c k hk
  have hr := rest_low m ρ c k hk
  unfold ow
  iintro ⟨#HR, #HL, Hc, ⟨%W, HO⟩, Hat⟩ Hk
  ihave #HI := (inv_at m ρ K (c, k)) $$ HR
  ihave HM := hm $$ HL
  rw [e] at he hr ⊢
  rw [hs]
  iapply (Rounds.wp_wait_rest_token 𝒱₀ ER (sched m ρ) (c : Thread nD τ) none (κ := K (c, k))
      (wpE_semWait_eq 𝒱₀ (c : Thread nD τ) none Set.univ) (Set.mem_univ _) () (O := owe c j) (W := W) (R := 0) (m := 0) (T := ∅)
      (by rw [he])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (sched m ρ) (Set.mem_univ (K (c, k))) (fun h => h) (R := 0 + 1) (duties_later m ρ ((c : Thread nD τ), SemLoc.reg s))) $$ [Hat] with Hz
  · isplitr; · iexact HI
    iexact Hat
  ihave Hp := (Entails.of_eq hr) $$ Hpay
  iapply Hk
  isplitl [HO]; · iexists _; iexact HO
  isplitl [Hz]; · iexact Hz
  iexact Hp

/-- A wait for a copy takes what the copy hands over and ends the semaphore's use. -/
theorem wp_copied (c : Dev nD) (k : Fin 14) (q : DmaSem sig) (hq : osem k = .dma q) (hk : ¬ k.val < 2) (j : ℕ)
    (hlv : ∀ p ∈ oweL.drop j, lvK k < lvK p.1) {src dst : Memref sig .tc .vmem S2x512x1024 .bf16} {hsrc : src.view.WordExact} {hdst : dst.view.WordExact}
    (hN : dst.view.dmaCredit = N) {α : Type} {Q : α → sProp 𝕄} {kk : PUnit → Prog (TpuEff nD τ sig (Elt F) Λ₀ .tc) α} :
    iprop(records m ρ K ∗ levAts L lv ∗ cred (tallyAt (kcell (c, k)) () N) ∗ ow c j ∗ atPos ER (kcell (c, k)) 0 ∅ 0)
      ⊢ iprop(((ow c j ∗ semVal (kcell (c, k)) 0 ∗ pay m ρ c k false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  have e : kcell (c, k) = ((c : Thread nD τ), SemLoc.dma q) := congrArg (Prod.mk _) hq
  have hm := mayWait_k (F := F) c k j hlv
  have he := expect_high m ρ c k hk
  have hr := rest_high m ρ c k hk
  unfold ow
  iintro ⟨#HR, #HL, Hc, ⟨%W, HO⟩, Hat⟩ Hk
  ihave #HI := (inv_at m ρ K (c, k)) $$ HR
  ihave HM := hm $$ HL
  rw [e] at he hr ⊢
  rw [hq]
  iapply (Rounds.wp_wait_rest_token 𝒱₀ ER (sched m ρ) (c : Thread nD τ) none (κ := K (c, k))
      (wpE_waitDma2_eq 𝒱₀ (c : Thread nD τ) none Set.univ) (Set.mem_univ _) () (O := owe c j) (W := W) (R := 0) (m := 0) (T := ∅)
      (by rw [Nat.zero_add, hN, he])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (sched m ρ) (Set.mem_univ (K (c, k))) (fun h => h) (R := 0 + 1) (duties_later m ρ ((c : Thread nD τ), SemLoc.dma q))) $$ [Hat] with Hz
  · isplitr; · iexact HI
    iexact Hat
  ihave Hp := (Entails.of_eq hr) $$ Hpay
  iapply Hk
  isplitl [HO]; · iexists _; iexact HO
  isplitl [Hz]; · iexact Hz
  iexact Hp

/-- A copy to a neighbour: the source's share goes to the own send semaphore, the written target to the neighbour's receive semaphore. -/
theorem wp_hop (c n : Dev nD) (b : Bool) (hn : n = tg b c) (ks kv : Fin 14) (qs qv : DmaSem sig) (hqs : osem ks = .dma qs) (hqv : osem kv = .dma qv)
    (hks : ¬ ks.val < 2) (hkv : ¬ kv.val < 2) (j : ℕ) (hj : oweL.drop j = (kv, b) :: oweL.drop (j + 1))
    {src dst : Memref sig .tc .vmem S2x512x1024 .bf16} (hN : dst.view.dmaCredit = N)
    {hsc : (dst : Memref sig (Dev.tc n : Thread nD τ).2.kind .vmem S2x512x1024 .bf16).view.ref.isScScratch = false}
    {hsrc : src.view.WordExact} {hdst : (dst : Memref sig (Dev.tc n : Thread nD τ).2.kind .vmem S2x512x1024 .bf16).view.WordExact}
    {hsem : DmaTarget.Typed .vmem (.dma qv) (.remote (Dev.tc n : Thread nD τ) (dst : Memref sig (Dev.tc n : Thread nD τ).2.kind .vmem S2x512x1024 .bf16) (.dma qs) hsc)}
    (q : PosShare TreeShare) (fs : Buf (Elt F) (src.view.loc (c : Thread nD τ))) (fd : Buf (Elt F) (dst.view.loc (tg b c : Thread nD τ)))
    (hp₁ : (src.view.loc (c : Thread nD τ) ↦[src.view.set]{q} fs : sProp 𝕄) ⊢ pay m ρ c ks false)
    (hp₂ : (dst.view.loc (tg b c : Thread nD τ) ↦[dst.view.set]{fullShare} dst.view.write (Elt F) fd (src.view.read (Elt F) fs) Finset.univ : sProp 𝕄) ⊢ pay m ρ (tg b c) kv false)
    {α : Type} {Q : α → sProp 𝕄} {kk : PUnit → Prog (TpuEff nD τ sig (Elt F) Λ₀ .tc) α} :
    iprop(records m ρ K ∗ (src.view.loc (c : Thread nD τ) ↦[src.view.set]{q} fs) ∗ (dst.view.loc (tg b c : Thread nD τ) ↦[dst.view.set]{fullShare} fd) ∗ ow c j
        ∗ dutyTok ER (kcell (c, ks)) 0 false ∗ dutyTok ER (kcell (tg b c, kv)) 0 false)
      ⊢ iprop(((cred (tallyAt (kcell (c, ks)) () N) ∗ ow c (j + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma qs) hsc) (.dma qv) hsrc hdst hsem) kk) Q) := by
  subst hn
  have e₁ : kcell (c, ks) = ((c : Thread nD τ), SemLoc.dma qs) := congrArg (Prod.mk _) hqs
  have e₂ : kcell (tg b c, kv) = ((tg b c : Thread nD τ), SemLoc.dma qv) := congrArg (Prod.mk _) hqv
  have hd₁ := duties_k m ρ c ks
  have hd₂ := duties_k m ρ (tg b c) kv
  have ha₁ := amount_k m ρ c ks false
  have ha₂ := amount_k m ρ (tg b c) kv false
  have hl₁ := payload_k m ρ c ks false
  have hl₂ := payload_k m ρ (tg b c) kv false
  unfold ow
  iintro ⟨#HR, Hs, Hd, ⟨%W, HO⟩, Ht₁, Ht₂⟩ Hk
  ihave #HI₁ := (inv_at m ρ K (c, ks)) $$ HR
  ihave #HI₂ := (inv_at m ρ K (tg b c, kv)) $$ HR
  ihave #Hr₁ := (reached_at m ρ K (c, ks)) $$ HR
  ihave #Hr₂ := (reached_at m ρ K (tg b c, kv)) $$ HR
  rw [owe_step c j kv b hj]
  rw [e₁] at hd₁ ha₁ hl₁ ⊢
  rw [e₂] at hd₂ ha₂ hl₂ ⊢
  unfold amt at ha₁ ha₂ ⊢
  rw [if_neg hks] at ha₁
  rw [if_neg hkv] at ha₂ ⊢
  unfold dut at hd₁ hd₂
  rw [if_neg hks] at hd₁
  rw [if_neg hkv] at hd₂
  iapply (Rounds.wp_send_pointsTo 𝒱₀ ER (sched m ρ) (c : Thread nD τ) none (κ₁ := K (c, ks)) (κ₂ := K (tg b c, kv))
    (r₁ := 0) (r₂ := 0) (d₁ := false) (d₂ := false) (fd := fd)
    (by rw [hd₁]; exact Finset.mem_singleton_self _) (by rw [hd₂]; exact Finset.mem_singleton_self _)
    () () N (show dst.view.amount (.dma qv) = N from hN) ha₁ ha₂ (owe c (j + 1)) rfl (W := W)
    (by rw [hl₁]; exact hp₁) (by rw [hl₂]; exact hp₂)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

abbrev oLoc (c : Dev nD) : Loc nD τ sig := (c : Thread nD τ).loc cc0_stg5_0

omit [FloatOps F] in
theorem hz : (![0, 0] : Fin 2 → Nat) = fun _ => 0 := funext fun a => by fin_cases a <;> rfl
omit [FloatOps F] in
theorem read_out (f : (cc0_stg5_0 : Ref sig .tc).ty.Contents (Elt F)) : (oM).view.readAt (Elt F) r0.toLoadRect f = f :=
  Memref.readAt_unit_zero (Elt F) cc0_stg5_0 hz _ _
omit [FloatOps F] in
theorem write_out (f w : (cc0_stg5_0 : Ref sig .tc).ty.Contents (Elt F)) :
    ((oM).access r0 : View sig .tc _ _ _).write (Elt F) f w Finset.univ = w :=
  Memref.write_access_unit_zero_univ (Elt F) cc0_stg5_0 hz _ f w

/-- One expert's contribution: the result buffer is read, the expert's weights are read, the result buffer is read again without use and written. -/
theorem wp_accum (c : Dev nD) {sx : Shape} (mm : Memref sig .tc .vmem sx .bf16) (r : Rect sx) (P : FVec F S2048x1024 .f32 → Vec F r.shape .bf16 → FVec F S2048x1024 .f32)
    (fo : FVec F S2048x1024 .f32) {S : Finset (Idx (mm.view.loc (c : Thread nD τ)))} {q : PosShare TreeShare} (f : Buf (Elt F) (mm.view.loc (c : Thread nD τ)))
    (hS : mm.view.setOn r.set ⊆ S)
    {g₁ : (oM).view.LoadsAt r0.toLoadRect} {g₂ : mm.view.LoadsAt r.toLoadRect} {g₃ : (oM).view.LoadsAt r0.toLoadRect}
    {g₄} {g₅} {α : Type} {Q : α → sProp 𝕄} {kk : PUnit → Prog (TpuEff nD τ sig (Elt F) Λ₀ .tc) α} :
    iprop((oLoc c ↦{fullShare} fo) ∗ (mm.view.loc (c : Thread nD τ) ↦[S]{q} f))
      ⊢ iprop((((oLoc c ↦{fullShare} (P fo (mm.view.readAt (Elt F) r.toLoadRect f) : FVec F S2048x1024 .f32)) ∗ (mm.view.loc (c : Thread nD τ) ↦[S]{q} f))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load oM r0.toLoadRect g₁) fun (v : Vec F S2048x1024 .f32) => .op (.load mm r.toLoadRect g₂) fun (w : Vec F r.shape .bf16) => .op (.load oM r0.toLoadRect g₃) fun _ =>
                .op (.store oM r0 (P v w) Finset.univ g₄ g₅) kk) Q) := by
  iintro ⟨Ho, Hf⟩ Hk
  iapply (wp_load 𝒱₀ (c : Thread nD τ) none Set.univ (m := oM) (Finset.subset_univ _)) $$ Ho; iintro Ho
  iapply (wp_load 𝒱₀ (c : Thread nD τ) none Set.univ (m := mm) hS) $$ Hf; iintro Hf
  iapply (wp_load 𝒱₀ (c : Thread nD τ) none Set.univ (m := oM) (Finset.subset_univ _)) $$ Ho; iintro Ho
  iapply (wp_store 𝒱₀ (c : Thread nD τ) none Set.univ (m := oM) (r := r0) (Mk := Finset.univ) (Finset.subset_univ _)) $$ Ho; iintro Ho
  rw [write_out, read_out]
  iapply Hk
  isplitl [Ho] <;> iassumption

end Steps

end Cert.KernelIdeal.Moe
-- ==== Proof.Ideal.Body.lean ====
/-
The kernel's body on one device: from the buffers and tokens the launch hands it, through the two handshakes, the six
copies and the sixteen contributions, to the finished result buffer and every semaphore at zero.
-/
module

public import proofs.«01_k».proof.Proof.Ideal.Steps

@[expose] public section

noncomputable section

namespace Cert.KernelIdeal.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the copies and signals hand over -/

omit [FloatOps F] in
theorem acc_sub (r : Rect S2x2x512x1024) (s : Fin 2) (h : ∀ i ∈ r.set, (i 0).val = s.val) : (rM).view.setOn r.set ⊆ slotSet s := by
  intro i hi
  obtain ⟨j, hj, rfl⟩ := Finset.mem_map.mp hi
  exact (mem_slot s _).mpr (h j hj)
omit [FloatOps F] in
theorem acc_sub_l (r : Rect S2x2x512x1024) (s : Fin 2) (h : ∀ i ∈ r.set, (i 0).val = s.val) : (lM).view.setOn r.set ⊆ slotSet s := acc_sub r s h

theorem a00_sub : ∀ i ∈ a00.set, (i 0).val = (0 : Fin 2).val := fun i hi => by have h := (Rect.mem_set_unit.mp hi 0); simp [S1x1x512x1024] at h; exact h
theorem a01_sub : ∀ i ∈ a01.set, (i 0).val = (0 : Fin 2).val := fun i hi => by have h := (Rect.mem_set_unit.mp hi 0); simp [S1x1x512x1024] at h; exact h
theorem a10_sub : ∀ i ∈ a10.set, (i 0).val = (1 : Fin 2).val := fun i hi => by have h := (Rect.mem_set_unit.mp hi 0); simp [S1x1x512x1024] at h; show (i 0).val = 1; omega
theorem a11_sub : ∀ i ∈ a11.set, (i 0).val = (1 : Fin 2).val := fun i hi => by have h := (Rect.mem_set_unit.mp hi 0); simp [S1x1x512x1024] at h; show (i 0).val = 1; omega

section Hand

variable (c : Dev nD)

omit [FloatOps F] in
theorem rP0 (q) (f : Buf (Elt F) (rLoc c)) : ((rM0).view.loc (c : Thread nD τ) ↦[(rM0).view.set]{q} f : sProp 𝕄) = rPts 0 q c f := by unfold rPts; rw [rM0_set]
omit [FloatOps F] in
theorem rP1 (q) (f : Buf (Elt F) (rLoc c)) : ((rM1).view.loc (c : Thread nD τ) ↦[(rM1).view.set]{q} f : sProp 𝕄) = rPts 1 q c f := by unfold rPts; rw [rM1_set]
omit [FloatOps F] in
theorem lP0 (q) (f : Buf (Elt F) (lLoc c)) : ((lM0).view.loc (c : Thread nD τ) ↦[(lM0).view.set]{q} f : sProp 𝕄) = lPts 0 q c f := by unfold lPts; rw [lM0_set]
omit [FloatOps F] in
theorem lP1 (q) (f : Buf (Elt F) (lLoc c)) : ((lM1).view.loc (c : Thread nD τ) ↦[(lM1).view.set]{q} f : sProp 𝕄) = lPts 1 q c f := by unfold lPts; rw [lM1_set]
omit [FloatOps F] in
theorem eP0 (q) : ((eM0).view.loc (c : Thread nD τ) ↦[(eM0).view.set]{q} eS m ρ c : sProp 𝕄) = ePts m ρ 0 q c := by unfold ePts; rw [eM0_set]
omit [FloatOps F] in
theorem eP1 (q) : ((eM1).view.loc (c : Thread nD τ) ↦[(eM1).view.set]{q} eS m ρ c : sProp 𝕄) = ePts m ρ 1 q c := by unfold ePts; rw [eM1_set]

omit [FloatOps F] in
theorem give_r : (iprop(∃ f, rLoc c ↦{fullShare} f) : sProp 𝕄) ⊢ pay m ρ (tg true c) 0 true := by
  show _ ⊢ (iprop(∃ f, rLoc (nxt (prv c)) ↦{fullShare} f) : sProp 𝕄); rw [nxt_prv]
omit [FloatOps F] in
theorem give_l : (iprop(∃ f, lLoc c ↦{fullShare} f) : sProp 𝕄) ⊢ pay m ρ (tg false c) 0 false := by
  show _ ⊢ (iprop(∃ f, lLoc (prv (nxt c)) ↦{fullShare} f) : sProp 𝕄); rw [prv_nxt]
omit [FloatOps F] in
theorem back_r (f : Buf (Elt F) (rLoc c)) : (rPts 0 fullShare c f : sProp 𝕄) ⊢ pay m ρ (tg true c) 1 true := by
  show _ ⊢ (iprop(∃ f, rPts 0 fullShare (nxt (prv c)) f) : sProp 𝕄); rw [nxt_prv]
  iintro H; iexists f; iexact H
omit [FloatOps F] in
theorem back_l (f : Buf (Elt F) (lLoc c)) : (lPts 0 fullShare c f : sProp 𝕄) ⊢ pay m ρ (tg false c) 1 false := by
  show _ ⊢ (iprop(∃ f, lPts 0 fullShare (prv (nxt c)) f) : sProp 𝕄); rw [prv_nxt]
  iintro H; iexists f; iexact H

omit [FloatOps F] in
/-- The target of each of the six copies, written, is what its receive semaphore hands over. -/
theorem lands_r0 (fd : Buf (Elt F) (rLoc (nxt c))) :
    ((rM0).view.loc (nxt c : Thread nD τ) ↦[(rM0).view.set]{fullShare} (rM0).view.write (Elt F) fd ((eM0).view.read (Elt F) (eS m ρ c)) Finset.univ : sProp 𝕄) ⊢ pay m ρ (nxt c) 5 false := by
  rw [pointsTo_congr (land_r0 m ρ c fd), rP0]
  show _ ⊢ (rPts 0 fullShare (nxt c) (RC m ρ (prv (nxt c))) : sProp 𝕄); rw [prv_nxt]
omit [FloatOps F] in
theorem lands_r1 (fd : Buf (Elt F) (rLoc (nxt c))) :
    ((rM1).view.loc (nxt c : Thread nD τ) ↦[(rM1).view.set]{fullShare} (rM1).view.write (Elt F) fd ((rM0).view.read (Elt F) (RC m ρ (prv c))) Finset.univ : sProp 𝕄) ⊢ pay m ρ (nxt c) 6 false := by
  rw [pointsTo_congr (land_r1 m ρ (prv c) fd), rP1]
  show _ ⊢ (rPts 1 fullShare (nxt c) (RC m ρ (prv (prv (nxt c)))) : sProp 𝕄); rw [prv_nxt]
omit [FloatOps F] in
theorem lands_r2 (fd : Buf (Elt F) (rLoc (nxt c))) :
    ((rM0).view.loc (nxt c : Thread nD τ) ↦[(rM0).view.set]{fullShare} (rM0).view.write (Elt F) fd ((rM1).view.read (Elt F) (RC m ρ (prv (prv c)))) Finset.univ : sProp 𝕄) ⊢ pay m ρ (nxt c) 7 false := by
  rw [pointsTo_congr (land_r2 m ρ (prv (prv c)) fd), rP0]
  show _ ⊢ (rPts 0 fullShare (nxt c) (RC m ρ (prv (prv (prv (nxt c))))) : sProp 𝕄); rw [prv_nxt]
omit [FloatOps F] in
theorem lands_l0 (fd : Buf (Elt F) (lLoc (prv c))) :
    ((lM0).view.loc (prv c : Thread nD τ) ↦[(lM0).view.set]{fullShare} (lM0).view.write (Elt F) fd ((eM1).view.read (Elt F) (eS m ρ c)) Finset.univ : sProp 𝕄) ⊢ pay m ρ (prv c) 11 false := by
  rw [pointsTo_congr (land_l0 m ρ c fd), lP0]
  show _ ⊢ (lPts 0 fullShare (prv c) (LC m ρ (nxt (prv c))) : sProp 𝕄); rw [nxt_prv]
omit [FloatOps F] in
theorem lands_l1 (fd : Buf (Elt F) (lLoc (prv c))) :
    ((lM1).view.loc (prv c : Thread nD τ) ↦[(lM1).view.set]{fullShare} (lM1).view.write (Elt F) fd ((lM0).view.read (Elt F) (LC m ρ (nxt c))) Finset.univ : sProp 𝕄) ⊢ pay m ρ (prv c) 12 false := by
  rw [pointsTo_congr (land_l1 m ρ (nxt c) fd), lP1]
  show _ ⊢ (lPts 1 fullShare (prv c) (LC m ρ (nxt (nxt (prv c)))) : sProp 𝕄); rw [nxt_prv]
omit [FloatOps F] in
theorem lands_l2 (fd : Buf (Elt F) (lLoc (prv c))) :
    ((lM0).view.loc (prv c : Thread nD τ) ↦[(lM0).view.set]{fullShare} (lM0).view.write (Elt F) fd ((lM1).view.read (Elt F) (LC m ρ (nxt (nxt c)))) Finset.univ : sProp 𝕄) ⊢ pay m ρ (prv c) 13 false := by
  rw [pointsTo_congr (land_l2 m ρ (nxt (nxt c)) fd), lP0]
  show _ ⊢ (lPts 0 fullShare (prv c) (LC m ρ (nxt (nxt (nxt (prv c))))) : sProp 𝕄); rw [nxt_prv]

/-- The sixteen tokens a device pays with, one by one. -/
theorem payToks_eq : (payToks c : sProp 𝕄) = iprop(dutyTok ER (kcell (prv c, 0)) 0 true ∗ dutyTok ER (kcell (nxt c, 0)) 0 false ∗ dutyTok ER (kcell (prv c, 1)) 0 true ∗ dutyTok ER (kcell (nxt c, 1)) 0 false
    ∗ dutyTok ER (kcell (c, 2)) 0 false ∗ dutyTok ER (kcell (c, 3)) 0 false ∗ dutyTok ER (kcell (c, 4)) 0 false
    ∗ dutyTok ER (kcell (nxt c, 5)) 0 false ∗ dutyTok ER (kcell (nxt c, 6)) 0 false ∗ dutyTok ER (kcell (nxt c, 7)) 0 false
    ∗ dutyTok ER (kcell (c, 8)) 0 false ∗ dutyTok ER (kcell (c, 9)) 0 false ∗ dutyTok ER (kcell (c, 10)) 0 false
    ∗ dutyTok ER (kcell (prv c, 11)) 0 false ∗ dutyTok ER (kcell (prv c, 12)) 0 false ∗ dutyTok ER (kcell (prv c, 13)) 0 false) := by
  unfold payToks
  rw [bigSep_univ_eq_bigSepL [0, 1, 2, 3, 4, 5, 6, 7, 8, 9, 10, 11, 12, 13, 14, 15] (by decide) (by decide)]
  rfl
omit [FloatOps F] in
theorem over14 (P : Fin 14 → sProp 𝕄) : bigSep Finset.univ P = iprop(P 0 ∗ P 1 ∗ P 2 ∗ P 3 ∗ P 4 ∗ P 5 ∗ P 6 ∗ P 7 ∗ P 8 ∗ P 9 ∗ P 10 ∗ P 11 ∗ P 12 ∗ P 13) :=
  bigSep_univ_eq_bigSepL [0, 1, 2, 3, 4, 5, 6, 7, 8, 9, 10, 11, 12, 13] (by decide) (by decide) P

end Hand

abbrev b0 : Rect S4x512x1024 := Rect.unit (s := S4x512x1024) ![0, 0, 0] S1x512x1024.size inb_S4x512x1024_S1x512x1024_0_0_0
abbrev b1 : Rect S4x512x1024 := Rect.unit (s := S4x512x1024) ![1, 0, 0] S1x512x1024.size inb_S4x512x1024_S1x512x1024_1_0_0
abbrev b2 : Rect S4x512x1024 := Rect.unit (s := S4x512x1024) ![2, 0, 0] S1x512x1024.size inb_S4x512x1024_S1x512x1024_2_0_0
abbrev b3 : Rect S4x512x1024 := Rect.unit (s := S4x512x1024) ![3, 0, 0] S1x512x1024.size inb_S4x512x1024_S1x512x1024_3_0_0

omit [FloatOps F] in
theorem read_x (f : (cc0_stg0_0 : Ref sig .tc).ty.Contents (Elt F)) :
    (xM).view.readAt (Elt F) (Rect.unit (s := S2048x512) ![0, 0] S2048x512.size inb_S2048x512_S2048x512_0_0).toLoadRect f = f := Memref.readAt_unit_zero (Elt F) cc0_stg0_0 hz _ _
omit [FloatOps F] in
theorem read_w (f : (cc0_stg1_0 : Ref sig .tc).ty.Contents (Elt F)) :
    (wM).view.readAt (Elt F) (Rect.unit (s := S512x16) ![0, 0] S512x16.size inb_S512x16_S512x16_0_0).toLoadRect f = f := Memref.readAt_unit_zero (Elt F) cc0_stg1_0 hz _ _
omit [FloatOps F] in
theorem read_i (f : (cc0_stg2_0 : Ref sig .tc).ty.Contents (Elt F)) :
    (iM).view.readAt (Elt F) (Rect.unit (s := S2048x1) ![0, 0] S2048x1.size inb_S2048x1_S2048x1_0_0).toLoadRect f = f := Memref.readAt_unit_zero (Elt F) cc0_stg2_0 hz _ _
omit [FloatOps F] in
theorem read_h (f : (cc0_stg4_0 : Ref sig .tc).ty.Contents (Elt F)) :
    (hM).view.readAt (Elt F) (Rect.unit (s := S512x1024) ![0, 0] S512x1024.size inb_S512x1024_S512x1024_0_0).toLoadRect f = f := Memref.readAt_unit_zero (Elt F) cc0_stg4_0 hz _ _

section Hops

variable (K : Dev nD × Fin 14 → ℕ) (c : Dev nD)

/-- Its first two experts, to the right neighbour. -/
theorem hop_r0 (n : Dev nD) (hn : n = nxt c) (f : Buf (Elt F) (rLoc (nxt c)))
    {hsc : ((rM0) : Memref sig (Dev.tc n : Thread nD τ).2.kind .vmem S2x512x1024 .bf16).view.ref.isScScratch = false}
    {hsrc : (eM0).view.WordExact} {hdst : ((rM0) : Memref sig (Dev.tc n : Thread nD τ).2.kind .vmem S2x512x1024 .bf16).view.WordExact}
    {hsem : DmaTarget.Typed .vmem (.dma (⟨9, by decide⟩ : DmaSem sig)) (.remote (Dev.tc n : Thread nD τ) ((rM0) : Memref sig (Dev.tc n : Thread nD τ).2.kind .vmem S2x512x1024 .bf16) (.dma (⟨6, by decide⟩ : DmaSem sig)) hsc)}
    {α : Type} {Q : α → sProp 𝕄} {kk : PUnit → Prog (TpuEff nD τ sig (Elt F) Λ₀ .tc) α} :
    iprop(records m ρ K ∗ ePts m ρ 0 fullShare.right c ∗ rPts 0 fullShare (nxt c) f ∗ ow c 2 ∗ dutyTok ER (kcell (c, 2)) 0 false ∗ dutyTok ER (kcell (nxt c, 5)) 0 false)
      ⊢ iprop(((cred (tallyAt (kcell (c, 2)) () N) ∗ ow c 3) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (eM0) (.remote (Dev.tc n : Thread nD τ) (rM0) (.dma (⟨6, by decide⟩ : DmaSem sig)) hsc) (.dma (⟨9, by decide⟩ : DmaSem sig)) hsrc hdst hsem) kk) Q) := by
  rw [← eP0, ← rP0]
  exact wp_hop m ρ K c n false hn 2 5 _ _ rfl rfl (by decide) (by decide) 2 rfl (src := eM0) (dst := rM0) rfl _ _ _ (by rw [eP0]; exact .rfl) (lands_r0 m ρ c f)

/-- Its last two experts, to the left neighbour. -/
theorem hop_l0 (n : Dev nD) (hn : n = prv c) (f : Buf (Elt F) (lLoc (prv c)))
    {hsc : ((lM0) : Memref sig (Dev.tc n : Thread nD τ).2.kind .vmem S2x512x1024 .bf16).view.ref.isScScratch = false}
    {hsrc : (eM1).view.WordExact} {hdst : ((lM0) : Memref sig (Dev.tc n : Thread nD τ).2.kind .vmem S2x512x1024 .bf16).view.WordExact}
    {hsem : DmaTarget.Typed .vmem (.dma (⟨15, by decide⟩ : DmaSem sig)) (.remote (Dev.tc n : Thread nD τ) ((lM0) : Memref sig (Dev.tc n : Thread nD τ).2.kind .vmem S2x512x1024 .bf16) (.dma (⟨12, by decide⟩ : DmaSem sig)) hsc)}
    {α : Type} {Q : α → sProp 𝕄} {kk : PUnit → Prog (TpuEff nD τ sig (Elt F) Λ₀ .tc) α} :
    iprop(records m ρ K ∗ ePts m ρ 1 fullShare.right c ∗ lPts 0 fullShare (prv c) f ∗ ow c 3 ∗ dutyTok ER (kcell (c, 8)) 0 false ∗ dutyTok ER (kcell (prv c, 11)) 0 false)
      ⊢ iprop(((cred (tallyAt (kcell (c, 8)) () N) ∗ ow c 4) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (eM1) (.remote (Dev.tc n : Thread nD τ) (lM0) (.dma (⟨12, by decide⟩ : DmaSem sig)) hsc) (.dma (⟨15, by decide⟩ : DmaSem sig)) hsrc hdst hsem) kk) Q) := by
  rw [← eP1, ← lP0]
  exact wp_hop m ρ K c n true hn 8 11 _ _ rfl rfl (by decide) (by decide) 3 rfl (src := eM1) (dst := lM0) rfl _ _ _ (by rw [eP1]; exact .rfl) (lands_l0 m ρ c f)

/-- What came from the left neighbour, on to the right one. -/
theorem hop_r1 (n : Dev nD) (hn : n = nxt c) (f : Buf (Elt F) (rLoc (nxt c)))
    {hsc : ((rM1) : Memref sig (Dev.tc n : Thread nD τ).2.kind .vmem S2x512x1024 .bf16).view.ref.isScScratch = false}
    {hsrc : (rM0).view.WordExact} {hdst : ((rM1) : Memref sig (Dev.tc n : Thread nD τ).2.kind .vmem S2x512x1024 .bf16).view.WordExact}
    {hsem : DmaTarget.Typed .vmem (.dma (⟨10, by decide⟩ : DmaSem sig)) (.remote (Dev.tc n : Thread nD τ) ((rM1) : Memref sig (Dev.tc n : Thread nD τ).2.kind .vmem S2x512x1024 .bf16) (.dma (⟨7, by decide⟩ : DmaSem sig)) hsc)}
    {α : Type} {Q : α → sProp 𝕄} {kk : PUnit → Prog (TpuEff nD τ sig (Elt F) Λ₀ .tc) α} :
    iprop(records m ρ K ∗ rPts 0 fullShare.right c (RC m ρ (prv c)) ∗ rPts 1 fullShare (nxt c) f ∗ ow c 4 ∗ dutyTok ER (kcell (c, 3)) 0 false ∗ dutyTok ER (kcell (nxt c, 6)) 0 false)
      ⊢ iprop(((cred (tallyAt (kcell (c, 3)) () N) ∗ ow c 5) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rM0) (.remote (Dev.tc n : Thread nD τ) (rM1) (.dma (⟨7, by decide⟩ : DmaSem sig)) hsc) (.dma (⟨10, by decide⟩ : DmaSem sig)) hsrc hdst hsem) kk) Q) := by
  rw [← rP0, ← rP1]
  exact wp_hop m ρ K c n false hn 3 6 _ _ rfl rfl (by decide) (by decide) 4 rfl (src := rM0) (dst := rM1) rfl _ _ _ (by rw [rP0]; exact .rfl) (lands_r1 m ρ c f)

/-- What came from the right neighbour, on to the left one. -/
theorem hop_l1 (n : Dev nD) (hn : n = prv c) (f : Buf (Elt F) (lLoc (prv c)))
    {hsc : ((lM1) : Memref sig (Dev.tc n : Thread nD τ).2.kind .vmem S2x512x1024 .bf16).view.ref.isScScratch = false}
    {hsrc : (lM0).view.WordExact} {hdst : ((lM1) : Memref sig (Dev.tc n : Thread nD τ).2.kind .vmem S2x512x1024 .bf16).view.WordExact}
    {hsem : DmaTarget.Typed .vmem (.dma (⟨16, by decide⟩ : DmaSem sig)) (.remote (Dev.tc n : Thread nD τ) ((lM1) : Memref sig (Dev.tc n : Thread nD τ).2.kind .vmem S2x512x1024 .bf16) (.dma (⟨13, by decide⟩ : DmaSem sig)) hsc)}
    {α : Type} {Q : α → sProp 𝕄} {kk : PUnit → Prog (TpuEff nD τ sig (Elt F) Λ₀ .tc) α} :
    iprop(records m ρ K ∗ lPts 0 fullShare.right c (LC m ρ (nxt c)) ∗ lPts 1 fullShare (prv c) f ∗ ow c 5 ∗ dutyTok ER (kcell (c, 9)) 0 false ∗ dutyTok ER (kcell (prv c, 12)) 0 false)
      ⊢ iprop(((cred (tallyAt (kcell (c, 9)) () N) ∗ ow c 6) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (lM0) (.remote (Dev.tc n : Thread nD τ) (lM1) (.dma (⟨13, by decide⟩ : DmaSem sig)) hsc) (.dma (⟨16, by decide⟩ : DmaSem sig)) hsrc hdst hsem) kk) Q) := by
  rw [← lP0, ← lP1]
  exact wp_hop m ρ K c n true hn 9 12 _ _ rfl rfl (by decide) (by decide) 5 rfl (src := lM0) (dst := lM1) rfl _ _ _ (by rw [lP0]; exact .rfl) (lands_l1 m ρ c f)

/-- The last hop to the right, into the slot the neighbour gave back. -/
theorem hop_r2 (n : Dev nD) (hn : n = nxt c) (f : Buf (Elt F) (rLoc (nxt c)))
    {hsc : ((rM0) : Memref sig (Dev.tc n : Thread nD τ).2.kind .vmem S2x512x1024 .bf16).view.ref.isScScratch = false}
    {hsrc : (rM1).view.WordExact} {hdst : ((rM0) : Memref sig (Dev.tc n : Thread nD τ).2.kind .vmem S2x512x1024 .bf16).view.WordExact}
    {hsem : DmaTarget.Typed .vmem (.dma (⟨11, by decide⟩ : DmaSem sig)) (.remote (Dev.tc n : Thread nD τ) ((rM0) : Memref sig (Dev.tc n : Thread nD τ).2.kind .vmem S2x512x1024 .bf16) (.dma (⟨8, by decide⟩ : DmaSem sig)) hsc)}
    {α : Type} {Q : α → sProp 𝕄} {kk : PUnit → Prog (TpuEff nD τ sig (Elt F) Λ₀ .tc) α} :
    iprop(records m ρ K ∗ rPts 1 fullShare.right c (RC m ρ (prv (prv c))) ∗ rPts 0 fullShare (nxt c) f ∗ ow c 8 ∗ dutyTok ER (kcell (c, 4)) 0 false ∗ dutyTok ER (kcell (nxt c, 7)) 0 false)
      ⊢ iprop(((cred (tallyAt (kcell (c, 4)) () N) ∗ ow c 9) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rM1) (.remote (Dev.tc n : Thread nD τ) (rM0) (.dma (⟨8, by decide⟩ : DmaSem sig)) hsc) (.dma (⟨11, by decide⟩ : DmaSem sig)) hsrc hdst hsem) kk) Q) := by
  rw [← rP1, ← rP0]
  exact wp_hop m ρ K c n false hn 4 7 _ _ rfl rfl (by decide) (by decide) 8 rfl (src := rM1) (dst := rM0) rfl _ _ _ (by rw [rP1]; exact .rfl) (lands_r2 m ρ c f)

/-- The last hop to the left, into the slot the neighbour gave back. -/
theorem hop_l2 (n : Dev nD) (hn : n = prv c) (f : Buf (Elt F) (lLoc (prv c)))
    {hsc : ((lM0) : Memref sig (Dev.tc n : Thread nD τ).2.kind .vmem S2x512x1024 .bf16).view.ref.isScScratch = false}
    {hsrc : (lM1).view.WordExact} {hdst : ((lM0) : Memref sig (Dev.tc n : Thread nD τ).2.kind .vmem S2x512x1024 .bf16).view.WordExact}
    {hsem : DmaTarget.Typed .vmem (.dma (⟨17, by decide⟩ : DmaSem sig)) (.remote (Dev.tc n : Thread nD τ) ((lM0) : Memref sig (Dev.tc n : Thread nD τ).2.kind .vmem S2x512x1024 .bf16) (.dma (⟨14, by decide⟩ : DmaSem sig)) hsc)}
    {α : Type} {Q : α → sProp 𝕄} {kk : PUnit → Prog (TpuEff nD τ sig (Elt F) Λ₀ .tc) α} :
    iprop(records m ρ K ∗ lPts 1 fullShare.right c (LC m ρ (nxt (nxt c))) ∗ lPts 0 fullShare (prv c) f ∗ ow c 9 ∗ dutyTok ER (kcell (c, 10)) 0 false ∗ dutyTok ER (kcell (prv c, 13)) 0 false)
      ⊢ iprop(((cred (tallyAt (kcell (c, 10)) () N) ∗ ow c 10) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (lM1) (.remote (Dev.tc n : Thread nD τ) (lM0) (.dma (⟨14, by decide⟩ : DmaSem sig)) hsc) (.dma (⟨17, by decide⟩ : DmaSem sig)) hsrc hdst hsem) kk) Q) := by
  rw [← lP1, ← lP0]
  exact wp_hop m ρ K c n true hn 10 13 _ _ rfl rfl (by decide) (by decide) 9 rfl (src := lM1) (dst := lM0) rfl _ _ _ (by rw [lP1]; exact .rfl) (lands_l2 m ρ c f)

end Hops

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s buffer `b` at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

/-! ## The body -/

section Body

variable (K : Dev nD × Fin 14 → ℕ)

/-- What the body starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
/-- What it ends with. -/
def bodyPost (c : Dev nD) : sProp 𝕄 :=
  iprop(Φ₁ c ∗ (dats m ρ 0 c).owesAt () t₀.succ
    ∗ stg c cc0_stg0_0 (xS m ρ c) ∗ stg c cc0_stg1_0 (wS m ρ c) ∗ stg c cc0_stg2_0 (iS m ρ c) ∗ stg c cc0_stg3_0 (eS m ρ c)
    ∗ stg c cc0_stg4_0 (hS m ρ c) ∗ stg c cc0_stg5_0 (outAt m ρ c))

set_option maxHeartbeats 4000000 in
/-- The body's run, one step after the other. -/
theorem sound_body (c : Dev nD) :
    bodyPre m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6) (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel
  simp only [semSignalWord, semWaitWord, Prog.lift, Prog.bind_op, Prog.bind_ret, Prog.pure_eq_ret, Prog.bind_assoc, wp_deviceId]
  simp only [slice_sR0, slice_sR1, slice_sR2, slice_vR0, slice_vR1, slice_vR2, slice_sL0, slice_sL1, slice_sL2, slice_vL0, slice_vL1, slice_vL2]
  unfold bodyPre Φ₀ start linear creds stg
  rw [payToks_eq, over14]
  iintro ⟨⟨⟨⟨%K, #HR, ⟨Ha0, Ha1, Ha2, Ha3, Ha4, Ha5, Ha6, Ha7, Ha8, Ha9, Ha10, Ha11, Ha12, Ha13⟩,
      Ht0, Ht1, Ht2, Ht3, Ht4, Ht5, Ht6, Ht7, Ht8, Ht9, Ht10, Ht11, Ht12, Ht13, Ht14, Ht15⟩,
      ⟨Hc0, Hc1, Hc5, Hc6, Hc7, Hc11, Hc12, Hc13⟩, #HL⟩, Hr, Hl⟩, Ho,
      ⟨%d0, %g0, %hg0, Hx⟩, ⟨%d1, %g1, %hg1, Hw⟩, ⟨%d2, %g2, %hg2, Hi⟩, ⟨%d3, %g3, %hg3, He⟩, ⟨%d4, %g4, %hg4, Hh⟩, ⟨%d5, %g5, %hg5, Hout⟩⟩
  have hx0 : g0 = xS m ρ c := by rw [hg0]; unfold Dat.before; rw [if_pos (fetch_0 t₀)]; rfl
  subst hx0
  have hx1 : g1 = wS m ρ c := by rw [hg1]; unfold Dat.before; rw [if_pos (fetch_1 t₀)]; rfl
  subst hx1
  have hx2 : g2 = iS m ρ c := by rw [hg2]; unfold Dat.before; rw [if_pos (fetch_2 t₀)]; rfl
  subst hx2
  have hx3 : g3 = eS m ρ c := by rw [hg3]; unfold Dat.before; rw [if_pos (fetch_3 t₀)]; rfl
  subst hx3
  have hx4 : g4 = hS m ρ c := by rw [hg4]; unfold Dat.before; rw [if_pos (fetch_4 t₀)]; rfl
  subst hx4
  unfold Dat.owesAt Pipeline.owesWithin
  icases Ho with ⟨%W, %hW, HO0⟩
  rw [show (dats m ρ 0 c).owed t₀.castSucc = owe c 0 from rfl]
  ihave HO := (show (owes (c : Thread nD τ) (owe c 0) W : sProp 𝕄) ⊢ ow c 0 from by unfold ow; iintro H; iexists W; iexact H) $$ HO0
  ihave Hr := (give_r m ρ c) $$ Hr
  ihave Hl := (give_l m ρ c) $$ Hl
  iapply (wp_sig m ρ K c _ true (dev1_eq c) 0 barS rfl (by decide) 0 rfl _ rfl) $$ [HO Ht0 Hr]
  · isplitr; · iexact HR
    isplitl [HO]; · iexact HO
    isplitl [Ht0]; · iexact Ht0
    iexact Hr
  iintro HO
  iapply (wp_sig m ρ K c _ false (dev2_eq c) 0 barS rfl (by decide) 1 rfl _ rfl) $$ [HO Ht1 Hl]
  · isplitr; · iexact HR
    isplitl [HO]; · iexact HO
    isplitl [Ht1]; · iexact Ht1
    iexact Hl
  iintro HO
  iapply (wp_both m ρ K c 0 barS rfl (by decide) 2 (by decide) _ rfl) $$ [Hc0 HO Ha0]
  · isplitr; · iexact HR
    isplitr; · iexact HL
    isplitl [Hc0]; · iexact Hc0
    isplitl [HO]; · iexact HO
    iexact Ha0
  iintro ⟨HO, Hz0, Hl0, Hr0⟩
  icases (show pay m ρ c 0 false ⊢ iprop(∃ f, lLoc (prv c) ↦{fullShare} f) from .rfl) $$ Hl0 with ⟨%fl, Hl⟩
  icases (show pay m ρ c 0 true ⊢ iprop(∃ f, rLoc (nxt c) ↦{fullShare} f) from .rfl) $$ Hr0 with ⟨%fr, Hr⟩
  icases (l_split (prv c) fullShare fl).1 $$ Hl with ⟨Hl0, Hl1⟩
  icases (r_split (nxt c) fullShare fr).1 $$ Hr with ⟨Hr0, Hr1⟩
  icases (e_halves m ρ c).1 $$ He with ⟨HeL, HeR⟩
  icases (e_split m ρ c fullShare.right).1 $$ HeR with ⟨He0, He1⟩
  iapply (hop_r0 m ρ K c _ (dev3_eq c) fr) $$ [He0 Hr0 HO Ht4 Ht7]
  · isplitr; · iexact HR
    isplitl [He0]; · iexact He0
    isplitl [Hr0]; · iexact Hr0
    isplitl [HO]; · iexact HO
    isplitl [Ht4]; · iexact Ht4
    iexact Ht7
  iintro ⟨Hc2, HO⟩
  iapply (hop_l0 m ρ K c _ (dev4_eq c) fl) $$ [He1 Hl0 HO Ht10 Ht13]
  · isplitr; · iexact HR
    isplitl [He1]; · iexact He1
    isplitl [Hl0]; · iexact Hl0
    isplitl [HO]; · iexact HO
    isplitl [Ht10]; · iexact Ht10
    iexact Ht13
  iintro ⟨Hc8, HO⟩
  iapply (wp_load 𝒱₀ (c : Thread nD τ) none Set.univ (m := xM) (Finset.subset_univ _)) $$ Hx; iintro Hx
  rw [read_x]
  iapply (wp_load 𝒱₀ (c : Thread nD τ) none Set.univ (m := iM) (Finset.subset_univ _)) $$ Hi; iintro Hi
  rw [read_i]
  iapply (wp_load 𝒱₀ (c : Thread nD τ) none Set.univ (m := wM) (Finset.subset_univ _)) $$ Hw; iintro Hw
  rw [read_w]
  iapply (wp_load 𝒱₀ (c : Thread nD τ) none Set.univ (m := hM) (Finset.subset_univ _)) $$ Hh; iintro Hh
  rw [read_h]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (wp_accum c (eM) b0 _ _ (eS m ρ c) (Finset.subset_univ _)) $$ [Hout HeL]
  · isplitl [Hout]; · iexact Hout
    iexact HeL
  iintro ⟨Hout, HeL⟩
  iapply (wp_accum c (eM) b1 _ _ (eS m ρ c) (Finset.subset_univ _)) $$ [Hout HeL]
  · isplitl [Hout]; · iexact Hout
    iexact HeL
  iintro ⟨Hout, HeL⟩
  iapply (wp_accum c (eM) b2 _ _ (eS m ρ c) (Finset.subset_univ _)) $$ [Hout HeL]
  · isplitl [Hout]; · iexact Hout
    iexact HeL
  iintro ⟨Hout, HeL⟩
  iapply (wp_accum c (eM) b3 _ _ (eS m ρ c) (Finset.subset_univ _)) $$ [Hout HeL]
  · isplitl [Hout]; · iexact Hout
    iexact HeL
  iintro ⟨Hout, HeL⟩
  iapply (wp_copied m ρ K c 2 _ rfl (by decide) 4 (by decide) (src := rM0) (dst := eM0) rfl) $$ [Hc2 HO Ha2]
  · isplitr; · iexact HR
    isplitr; · iexact HL
    isplitl [Hc2]; · iexact Hc2
    isplitl [HO]; · iexact HO
    iexact Ha2
  iintro ⟨HO, Hz2, He00⟩
  ihave He0 := (show pay m ρ c 2 false ⊢ ePts m ρ 0 fullShare.right c from .rfl) $$ He00
  iapply (wp_copied m ρ K c 5 _ rfl (by decide) 4 (by decide) (src := eM0) (dst := rM0) rfl) $$ [Hc5 HO Ha5]
  · isplitr; · iexact HR
    isplitr; · iexact HL
    isplitl [Hc5]; · iexact Hc5
    isplitl [HO]; · iexact HO
    iexact Ha5
  iintro ⟨HO, Hz5, Hr00⟩
  ihave Hr0 := (show pay m ρ c 5 false ⊢ rPts 0 fullShare c (RC m ρ (prv c)) from .rfl) $$ Hr00
  iapply (wp_copied m ρ K c 8 _ rfl (by decide) 4 (by decide) (src := lM0) (dst := eM1) rfl) $$ [Hc8 HO Ha8]
  · isplitr; · iexact HR
    isplitr; · iexact HL
    isplitl [Hc8]; · iexact Hc8
    isplitl [HO]; · iexact HO
    iexact Ha8
  iintro ⟨HO, Hz8, He10⟩
  ihave He1 := (show pay m ρ c 8 false ⊢ ePts m ρ 1 fullShare.right c from .rfl) $$ He10
  iapply (wp_copied m ρ K c 11 _ rfl (by decide) 4 (by decide) (src := eM1) (dst := lM0) rfl) $$ [Hc11 HO Ha11]
  · isplitr; · iexact HR
    isplitr; · iexact HL
    isplitl [Hc11]; · iexact Hc11
    isplitl [HO]; · iexact HO
    iexact Ha11
  iintro ⟨HO, Hz11, Hl00⟩
  ihave Hl0 := (show pay m ρ c 11 false ⊢ lPts 0 fullShare c (LC m ρ (nxt c)) from .rfl) $$ Hl00
  icases (r_halves 0 c _).1 $$ Hr0 with ⟨HrL, HrR⟩
  icases (l_halves 0 c _).1 $$ Hl0 with ⟨HlL, HlR⟩
  iapply (hop_r1 m ρ K c _ (dev5_eq c) fr) $$ [HrR Hr1 HO Ht5 Ht8]
  · isplitr; · iexact HR
    isplitl [HrR]; · iexact HrR
    isplitl [Hr1]; · iexact Hr1
    isplitl [HO]; · iexact HO
    isplitl [Ht5]; · iexact Ht5
    iexact Ht8
  iintro ⟨Hc3, HO⟩
  iapply (hop_l1 m ρ K c _ (dev6_eq c) fl) $$ [HlR Hl1 HO Ht11 Ht14]
  · isplitr; · iexact HR
    isplitl [HlR]; · iexact HlR
    isplitl [Hl1]; · iexact Hl1
    isplitl [HO]; · iexact HO
    isplitl [Ht11]; · iexact Ht11
    iexact Ht14
  iintro ⟨Hc9, HO⟩
  ihave HrL := (show (rPts 0 fullShare.left c (RC m ρ (prv c)) : sProp 𝕄) ⊢ iprop((rM).view.loc (c : Thread nD τ) ↦[slotSet 0]{fullShare.left} (RC m ρ (prv c))) from .rfl) $$ HrL
  ihave HlL := (show (lPts 0 fullShare.left c (LC m ρ (nxt c)) : sProp 𝕄) ⊢ iprop((lM).view.loc (c : Thread nD τ) ↦[slotSet 0]{fullShare.left} (LC m ρ (nxt c))) from .rfl) $$ HlL
  iapply (wp_accum c (rM) a00 _ _ (RC m ρ (prv c)) (acc_sub a00 0 a00_sub)) $$ [Hout HrL]
  · isplitl [Hout]; · iexact Hout
    iexact HrL
  iintro ⟨Hout, HrL⟩
  iapply (wp_accum c (rM) a01 _ _ (RC m ρ (prv c)) (acc_sub a01 0 a01_sub)) $$ [Hout HrL]
  · isplitl [Hout]; · iexact Hout
    iexact HrL
  iintro ⟨Hout, HrL⟩
  iapply (wp_accum c (lM) a00 _ _ (LC m ρ (nxt c)) (acc_sub_l a00 0 a00_sub)) $$ [Hout HlL]
  · isplitl [Hout]; · iexact Hout
    iexact HlL
  iintro ⟨Hout, HlL⟩
  iapply (wp_accum c (lM) a01 _ _ (LC m ρ (nxt c)) (acc_sub_l a01 0 a01_sub)) $$ [Hout HlL]
  · isplitl [Hout]; · iexact Hout
    iexact HlL
  iintro ⟨Hout, HlL⟩
  ihave HrL := (show iprop((rM).view.loc (c : Thread nD τ) ↦[slotSet 0]{fullShare.left} (RC m ρ (prv c))) ⊢ (rPts 0 fullShare.left c (RC m ρ (prv c)) : sProp 𝕄) from .rfl) $$ HrL
  ihave HlL := (show iprop((lM).view.loc (c : Thread nD τ) ↦[slotSet 0]{fullShare.left} (LC m ρ (nxt c))) ⊢ (lPts 0 fullShare.left c (LC m ρ (nxt c)) : sProp 𝕄) from .rfl) $$ HlL
  iapply (wp_copied m ρ K c 3 _ rfl (by decide) 6 (by decide) (src := rM1) (dst := rM0) rfl) $$ [Hc3 HO Ha3]
  · isplitr; · iexact HR
    isplitr; · iexact HL
    isplitl [Hc3]; · iexact Hc3
    isplitl [HO]; · iexact HO
    iexact Ha3
  iintro ⟨HO, Hz3, HrR0⟩
  ihave HrR := (show pay m ρ c 3 false ⊢ rPts 0 fullShare.right c (RC m ρ (prv c)) from .rfl) $$ HrR0
  iapply (wp_copied m ρ K c 6 _ rfl (by decide) 6 (by decide) (src := rM0) (dst := rM1) rfl) $$ [Hc6 HO Ha6]
  · isplitr; · iexact HR
    isplitr; · iexact HL
    isplitl [Hc6]; · iexact Hc6
    isplitl [HO]; · iexact HO
    iexact Ha6
  iintro ⟨HO, Hz6, Hr10⟩
  ihave Hr1 := (show pay m ρ c 6 false ⊢ rPts 1 fullShare c (RC m ρ (prv (prv c))) from .rfl) $$ Hr10
  iapply (wp_copied m ρ K c 9 _ rfl (by decide) 6 (by decide) (src := lM1) (dst := lM0) rfl) $$ [Hc9 HO Ha9]
  · isplitr; · iexact HR
    isplitr; · iexact HL
    isplitl [Hc9]; · iexact Hc9
    isplitl [HO]; · iexact HO
    iexact Ha9
  iintro ⟨HO, Hz9, HlR0⟩
  ihave HlR := (show pay m ρ c 9 false ⊢ lPts 0 fullShare.right c (LC m ρ (nxt c)) from .rfl) $$ HlR0
  iapply (wp_copied m ρ K c 12 _ rfl (by decide) 6 (by decide) (src := lM0) (dst := lM1) rfl) $$ [Hc12 HO Ha12]
  · isplitr; · iexact HR
    isplitr; · iexact HL
    isplitl [Hc12]; · iexact Hc12
    isplitl [HO]; · iexact HO
    iexact Ha12
  iintro ⟨HO, Hz12, Hl10⟩
  ihave Hl1 := (show pay m ρ c 12 false ⊢ lPts 1 fullShare c (LC m ρ (nxt (nxt c))) from .rfl) $$ Hl10
  ihave Hr0 := (r_halves 0 c (RC m ρ (prv c))).2 $$ [HrL HrR]
  · isplitl [HrL] <;> iassumption
  ihave Hl0 := (l_halves 0 c (LC m ρ (nxt c))).2 $$ [HlL HlR]
  · isplitl [HlL] <;> iassumption
  ihave Hr0 := (back_r m ρ c _) $$ Hr0
  ihave Hl0 := (back_l m ρ c _) $$ Hl0
  iapply (wp_sig m ρ K c _ true (dev7_eq c) 1 freeS rfl (by decide) 6 rfl _ rfl) $$ [HO Ht2 Hr0]
  · isplitr; · iexact HR
    isplitl [HO]; · iexact HO
    isplitl [Ht2]; · iexact Ht2
    iexact Hr0
  iintro HO
  iapply (wp_sig m ρ K c _ false (dev8_eq c) 1 freeS rfl (by decide) 7 rfl _ rfl) $$ [HO Ht3 Hl0]
  · isplitr; · iexact HR
    isplitl [HO]; · iexact HO
    isplitl [Ht3]; · iexact Ht3
    iexact Hl0
  iintro HO
  iapply (wp_both m ρ K c 1 freeS rfl (by decide) 8 (by decide) _ rfl) $$ [Hc1 HO Ha1]
  · isplitr; · iexact HR
    isplitr; · iexact HL
    isplitl [Hc1]; · iexact Hc1
    isplitl [HO]; · iexact HO
    iexact Ha1
  iintro ⟨HO, Hz1, Hl0, Hr0⟩
  icases (show pay m ρ c 1 false ⊢ iprop(∃ f, lPts 0 fullShare (prv c) f) from .rfl) $$ Hl0 with ⟨%fl', Hl0⟩
  icases (show pay m ρ c 1 true ⊢ iprop(∃ f, rPts 0 fullShare (nxt c) f) from .rfl) $$ Hr0 with ⟨%fr', Hr0⟩
  icases (r_halves 1 c _).1 $$ Hr1 with ⟨HrL, HrR⟩
  icases (l_halves 1 c _).1 $$ Hl1 with ⟨HlL, HlR⟩
  iapply (hop_r2 m ρ K c _ (dev9_eq c) fr') $$ [HrR Hr0 HO Ht6 Ht9]
  · isplitr; · iexact HR
    isplitl [HrR]; · iexact HrR
    isplitl [Hr0]; · iexact Hr0
    isplitl [HO]; · iexact HO
    isplitl [Ht6]; · iexact Ht6
    iexact Ht9
  iintro ⟨Hc4, HO⟩
  iapply (hop_l2 m ρ K c _ (dev10_eq c) fl') $$ [HlR Hl0 HO Ht12 Ht15]
  · isplitr; · iexact HR
    isplitl [HlR]; · iexact HlR
    isplitl [Hl0]; · iexact Hl0
    isplitl [HO]; · iexact HO
    isplitl [Ht12]; · iexact Ht12
    iexact Ht15
  iintro ⟨Hc10, HO⟩
  ihave HrL := (show (rPts 1 fullShare.left c (RC m ρ (prv (prv c))) : sProp 𝕄) ⊢ iprop((rM).view.loc (c : Thread nD τ) ↦[slotSet 1]{fullShare.left} (RC m ρ (prv (prv c)))) from .rfl) $$ HrL
  ihave HlL := (show (lPts 1 fullShare.left c (LC m ρ (nxt (nxt c))) : sProp 𝕄) ⊢ iprop((lM).view.loc (c : Thread nD τ) ↦[slotSet 1]{fullShare.left} (LC m ρ (nxt (nxt c)))) from .rfl) $$ HlL
  iapply (wp_accum c (rM) a10 _ _ (RC m ρ (prv (prv c))) (acc_sub a10 1 a10_sub)) $$ [Hout HrL]
  · isplitl [Hout]; · iexact Hout
    iexact HrL
  iintro ⟨Hout, HrL⟩
  iapply (wp_accum c (rM) a11 _ _ (RC m ρ (prv (prv c))) (acc_sub a11 1 a11_sub)) $$ [Hout HrL]
  · isplitl [Hout]; · iexact Hout
    iexact HrL
  iintro ⟨Hout, HrL⟩
  iapply (wp_accum c (lM) a10 _ _ (LC m ρ (nxt (nxt c))) (acc_sub_l a10 1 a10_sub)) $$ [Hout HlL]
  · isplitl [Hout]; · iexact Hout
    iexact HlL
  iintro ⟨Hout, HlL⟩
  iapply (wp_accum c (lM) a11 _ _ (LC m ρ (nxt (nxt c))) (acc_sub_l a11 1 a11_sub)) $$ [Hout HlL]
  · isplitl [Hout]; · iexact Hout
    iexact HlL
  iintro ⟨Hout, HlL⟩
  ihave HrL := (show iprop((rM).view.loc (c : Thread nD τ) ↦[slotSet 1]{fullShare.left} (RC m ρ (prv (prv c)))) ⊢ (rPts 1 fullShare.left c (RC m ρ (prv (prv c))) : sProp 𝕄) from .rfl) $$ HrL
  ihave HlL := (show iprop((lM).view.loc (c : Thread nD τ) ↦[slotSet 1]{fullShare.left} (LC m ρ (nxt (nxt c)))) ⊢ (lPts 1 fullShare.left c (LC m ρ (nxt (nxt c))) : sProp 𝕄) from .rfl) $$ HlL
  iapply (wp_copied m ρ K c 4 _ rfl (by decide) 10 (by decide) (src := rM0) (dst := rM1) rfl) $$ [Hc4 HO Ha4]
  · isplitr; · iexact HR
    isplitr; · iexact HL
    isplitl [Hc4]; · iexact Hc4
    isplitl [HO]; · iexact HO
    iexact Ha4
  iintro ⟨HO, Hz4, HrR0⟩
  ihave HrR := (show pay m ρ c 4 false ⊢ rPts 1 fullShare.right c (RC m ρ (prv (prv c))) from .rfl) $$ HrR0
  iapply (wp_copied m ρ K c 7 _ rfl (by decide) 10 (by decide) (src := rM1) (dst := rM0) rfl) $$ [Hc7 HO Ha7]
  · isplitr; · iexact HR
    isplitr; · iexact HL
    isplitl [Hc7]; · iexact Hc7
    isplitl [HO]; · iexact HO
    iexact Ha7
  iintro ⟨HO, Hz7, Hr00⟩
  ihave Hr0 := (show pay m ρ c 7 false ⊢ rPts 0 fullShare c (RC m ρ (prv (prv (prv c)))) from .rfl) $$ Hr00
  iapply (wp_copied m ρ K c 10 _ rfl (by decide) 10 (by decide) (src := lM0) (dst := lM1) rfl) $$ [Hc10 HO Ha10]
  · isplitr; · iexact HR
    isplitr; · iexact HL
    isplitl [Hc10]; · iexact Hc10
    isplitl [HO]; · iexact HO
    iexact Ha10
  iintro ⟨HO, Hz10, HlR0⟩
  ihave HlR := (show pay m ρ c 10 false ⊢ lPts 1 fullShare.right c (LC m ρ (nxt (nxt c))) from .rfl) $$ HlR0
  iapply (wp_copied m ρ K c 13 _ rfl (by decide) 10 (by decide) (src := lM1) (dst := lM0) rfl) $$ [Hc13 HO Ha13]
  · isplitr; · iexact HR
    isplitr; · iexact HL
    isplitl [Hc13]; · iexact Hc13
    isplitl [HO]; · iexact HO
    iexact Ha13
  iintro ⟨HO, Hz13, Hl00⟩
  ihave Hl0 := (show pay m ρ c 13 false ⊢ lPts 0 fullShare c (LC m ρ (nxt (nxt (nxt c)))) from .rfl) $$ Hl00
  ihave Hr1 := (r_halves 1 c (RC m ρ (prv (prv c)))).2 $$ [HrL HrR]
  · isplitl [HrL] <;> iassumption
  ihave Hl1 := (l_halves 1 c (LC m ρ (nxt (nxt c)))).2 $$ [HlL HlR]
  · isplitl [HlL] <;> iassumption
  ihave HrL := (show (rPts 0 fullShare c (RC m ρ (prv (prv (prv c)))) : sProp 𝕄) ⊢ iprop((rM).view.loc (c : Thread nD τ) ↦[slotSet 0]{fullShare} (RC m ρ (prv (prv (prv c))))) from .rfl) $$ Hr0
  ihave HlL := (show (lPts 0 fullShare c (LC m ρ (nxt (nxt (nxt c)))) : sProp 𝕄) ⊢ iprop((lM).view.loc (c : Thread nD τ) ↦[slotSet 0]{fullShare} (LC m ρ (nxt (nxt (nxt c))))) from .rfl) $$ Hl0
  iapply (wp_accum c (rM) a00 _ _ (RC m ρ (prv (prv (prv c)))) (acc_sub a00 0 a00_sub)) $$ [Hout HrL]
  · isplitl [Hout]; · iexact Hout
    iexact HrL
  iintro ⟨Hout, HrL⟩
  iapply (wp_accum c (rM) a01 _ _ (RC m ρ (prv (prv (prv c)))) (acc_sub a01 0 a01_sub)) $$ [Hout HrL]
  · isplitl [Hout]; · iexact Hout
    iexact HrL
  iintro ⟨Hout, HrL⟩
  iapply (wp_accum c (lM) a00 _ _ (LC m ρ (nxt (nxt (nxt c)))) (acc_sub_l a00 0 a00_sub)) $$ [Hout HlL]
  · isplitl [Hout]; · iexact Hout
    iexact HlL
  iintro ⟨Hout, HlL⟩
  iapply (wp_accum c (lM) a01 _ _ (LC m ρ (nxt (nxt (nxt c)))) (acc_sub_l a01 0 a01_sub)) $$ [Hout HlL]
  · isplitl [Hout]; · iexact Hout
    iexact HlL
  iintro ⟨Hout, HlL⟩
  ihave HrL := (show iprop((rM).view.loc (c : Thread nD τ) ↦[slotSet 0]{fullShare} (RC m ρ (prv (prv (prv c))))) ⊢ (rPts 0 fullShare c (RC m ρ (prv (prv (prv c)))) : sProp 𝕄) from .rfl) $$ HrL
  ihave HlL := (show iprop((lM).view.loc (c : Thread nD τ) ↦[slotSet 0]{fullShare} (LC m ρ (nxt (nxt (nxt c))))) ⊢ (lPts 0 fullShare c (LC m ρ (nxt (nxt (nxt c)))) : sProp 𝕄) from .rfl) $$ HlL
  ihave Hr := (r_join c _ _) $$ [HrL Hr1]
  · isplitl [HrL] <;> iassumption
  ihave Hl := (l_join c _ _) $$ [HlL Hl1]
  · isplitl [HlL] <;> iassumption
  ihave HeR := (e_split m ρ c fullShare.right).2 $$ [He0 He1]
  · isplitl [He0] <;> iassumption
  ihave He := (e_halves m ρ c).2 $$ [HeL HeR]
  · isplitl [HeL] <;> iassumption
  rw [wp_ret]; imodintro
  unfold bodyPost Φ₁ Dat.owesAt Pipeline.owesWithin stg
  rw [over14, show (dats m ρ 0 c).owed t₀.succ = owe c 10 from rfl]
  isplitl [Hr Hl Hz0 Hz1 Hz2 Hz3 Hz4 Hz5 Hz6 Hz7 Hz8 Hz9 Hz10 Hz11 Hz12 Hz13]
  · isplitl [Hr]; · iexact Hr
    isplitl [Hl]; · iexact Hl
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    iexact Hz13
  isplitl [HO]
  · icases (show ow c 10 ⊢ (iprop(∃ W, owes (c : Thread nD τ) (owe c 10) W) : sProp 𝕄) from .rfl) $$ HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  isplitl [Hh]
  · iexists _; isplitr; · (ipureintro; rfl)
    iexact Hh
  iexists _; isplitr; · (ipureintro; rfl)
  iexact Hout

end Body

end Cert.KernelIdeal.Moe
-- ==== Proof.Ideal.Run.lean ====
module

public import proofs.«01_k».proof.Proof.Ideal.Body
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
/-- The body run as the library asks for it, on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

/-- The kernel's own semaphores: all of the fourteen but the barrier's. -/
def osem' : Fin 13 → SemLoc sig := fun k => osem k.succ

theorem ownSemFacts : Pipeline.OwnSemFacts cfg0.spec osem' := by decide

theorem share_eq (c : Dev nD) (w : Fin cfg0.W) : (dats m ρ 0 c).share w = fullShare := by unfold Dat.share; split <;> rfl

theorem kcell_eq_iff {c c' : Dev nD} {k k' : Fin 14} : Iff (kcell (c, k) = kcell (c', k')) (c = c' ∧ k = k') := by
  constructor
  · intro h
    have h1 : c = c' := by have := congrArg (fun g : GSem nD τ sig => g.1.1) h; exact this
    have h2 : osem k = osem k' := congrArg Prod.snd h
    have h3 : some k = some k' := by rw [← kof_osem, ← kof_osem, h2]
    exact ⟨h1, Option.some.inj h3⟩
  · rintro ⟨rfl, rfl⟩; rfl
theorem kcell_injective : Function.Injective (kcell : Dev nD × Fin 14 → GSem nD τ sig) := by
  rintro ⟨c, k⟩ ⟨c', k'⟩ h
  obtain ⟨rfl, rfl⟩ := kcell_eq_iff.mp h; rfl
def ringCells : Finset (GSem nD τ sig) := Finset.univ.map ⟨kcell, kcell_injective⟩

/-- The tokens as they are minted: sixteen to a device, of its own semaphores' duties. -/
def tokOf (cj : Dev nD × Fin 16) : GSem nD τ sig × ℕ × Bool := (kcell (cj.1, (tk cj.2).1), 0, (tk cj.2).2)
theorem tk_injective : Function.Injective tk := by decide
theorem tokOf_injective : Function.Injective tokOf := by
  rintro ⟨c, j⟩ ⟨c', j'⟩ h
  have h0 : kcell (c, (tk j).1) = kcell (c', (tk j').1) := congrArg (fun x : GSem nD τ sig × ℕ × Bool => x.1) h
  obtain ⟨rfl, h1⟩ := kcell_eq_iff.mp h0
  have h2 : (tk j).2 = (tk j').2 := congrArg (fun x : GSem nD τ sig × ℕ × Bool => x.2.2) h
  rw [tk_injective (Prod.ext h1 h2)]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The sixteen tokens of device `c`'s own semaphores. -/
def toks (c : Dev nD) : sProp 𝕄 := bigSep Finset.univ fun j : Fin 16 => tok j c

/-- What a device is dealt at the launch. -/
def G (c : Dev nD) : sProp 𝕄 :=
  iprop((bigSep Finset.univ fun k : Fin 14 => roundState ER (sched m ρ) (kcell (c, k)) 0)
    ∗ (bigSep Finset.univ fun k : Fin 14 => iprop(atPos ER (kcell (c, k)) 0 ∅ 0 ∗ reached ER (kcell (c, k)) 0)) ∗ toks c)

/-- What it holds once every semaphore's record is made and the tokens have gone to those who pay with them. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 14 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem' c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0 ∗ semVal (kcell (c, 13)) 0) := by
  rw [Pipeline.ownSems0_eq_of_list c osem' [0, 1, 2, 3, 4, 5, 6, 7, 8, 9, 10, 11, 12] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    (bigSep Finset.univ fun k : Fin 14 => semVal (kcell (c, k)) 0 : sProp 𝕄)
      = iprop(unscopedSems0 c ∗ Pipeline.ownSems0 (Ix := Unit) (Name := ℕ) (U := UU) (Lvl := ℕ) (Val := Elt F) (τ := τ) osem' c) := by
  rw [ownSems0_eq, unscopedSems0_eq, over14]

theorem core_alloc (c : Dev nD) :
    iprop(Pipeline.ownSems0 (Ix := Unit) (Name := ℕ) (U := UU) (Lvl := ℕ) (Val := Elt F) (τ := τ) osem' c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 14 => semVal (kcell (c, k)) 0) ∗ bigSep Finset.univ fun k : Fin 14 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Over devices and duties, in either order. -/
theorem dev_duty (Φ : Dev nD → Fin 16 → sProp 𝕄) :
    (bigSep Finset.univ fun c => bigSep Finset.univ fun j => Φ c j) = bigSep Finset.univ fun j => bigSep Finset.univ fun c => Φ c j := by
  rw [← bigSep_univ_prod (fun x : Dev nD × Fin 16 => Φ x.1 x.2), ← bigSep_univ_prod (fun x : Fin 16 × Dev nD => Φ x.2 x.1)]
  exact bigSep_univ_equiv (Equiv.prodComm (Fin 16) (Dev nD)) (fun x : Dev nD × Fin 16 => Φ x.1 x.2)

/-- Every token goes to the device that pays with it. -/
theorem toks_around : (bigSep Finset.univ fun c : Dev nD => (toks c : sProp 𝕄)) = bigSep Finset.univ fun c : Dev nD => payToks c := by
  unfold toks payToks
  rw [dev_duty, dev_duty fun (c : Dev nD) (j : Fin 16) => (tok j (perm j c) : sProp 𝕄)]
  exact bigSep_congr fun j _ => bigSep_univ_equiv (perm j) (fun c : Dev nD => (tok j c : sProp 𝕄))

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 14 => iprop(∃ κ : ℕ, cellInv ER (sched m ρ) κ (kcell ck))),
    bigSep_congr (s := Finset.univ) (fun (c : Dev nD) _ => bigSep_sep' Finset.univ (fun k : Fin 14 => (atPos ER (kcell (c, k)) 0 ∅ 0 : sProp 𝕄)) (fun k => reached ER (kcell (c, k)) 0)),
    bigSep_sep', ← bigSep_univ_prod (fun ck : Dev nD × Fin 14 => (reached ER (kcell ck) 0 : sProp 𝕄)), toks_around]
  iintro ⟨HI, ⟨Hat, #HR⟩, Htok⟩
  ihave HK := (BI.bigSep_exists_pi Finset.univ (fun (ck : Dev nD × Fin 14) (κ : ℕ) => (cellInv ER (sched m ρ) κ (kcell ck) : sProp 𝕄))) $$ HI
  icases HK with ⟨%K, #HI⟩
  iapply (bigSep_with_persistent (R := records m ρ K) (Φ := linear) fun c _ => by
    unfold G'
    iintro ⟨HR, HL⟩
    iexists K
    isplitl [HR] <;> iassumption)
  isplitr
  · unfold records; isplitl; · iexact HI
    iexact HR
  · iapply (Entails.of_eq (bigSep_sep' Finset.univ (fun c : Dev nD => bigSep Finset.univ fun k : Fin 14 => (atPos ER (kcell (c, k)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem' c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credit at the launch -/

/-- How often device `d` pays semaphore `k` of device `c` in the list `l`. -/
def times (l : List (Fin 14 × Bool)) (c d : Dev nD) (k : Fin 14) : ℕ := (l.filter fun p => decide (c = tg p.2 d ∧ k = p.1)).length

theorem Osum_at (l : List (Fin 14 × Bool)) (c d : Dev nD) (k : Fin 14) : Osum d l (kcell (c, k)) () = times l c d k * amt k := by
  induction l with
  | nil => exact (Nat.zero_mul _).symm
  | cons p l ih =>
    show Osum d l (kcell (c, k)) () + tallyAt (kcell (tg p.2 d, p.1)) () (amt p.1) (kcell (c, k)) () = _
    rw [tallyAt_apply, ih]
    unfold times
    by_cases h : c = tg p.2 d ∧ k = p.1
    · rw [if_pos ⟨kcell_eq_iff.mpr h, rfl⟩, List.filter_cons, if_pos (by exact decide_eq_true h), List.length_cons, Nat.add_mul, Nat.one_mul, ← h.2]
    · rw [if_neg (fun h' => h (kcell_eq_iff.mp h'.1)), List.filter_cons, if_neg (by exact fun h' => h (of_decide_eq_true h'))]; rfl

/-- How often it is paid altogether. -/
def paid : Fin 14 → ℕ := ![2, 2, 0, 0, 0, 1, 1, 1, 0, 0, 0, 1, 1, 1]

theorem times_sum : ∀ (c : Dev nD) (k : Fin 14), (∑ d : Dev nD, times oweL c d k) = paid k := by decide

theorem launch_at (c : Dev nD) (k : Fin 14) :
    tallyOn (kcell (c, k)) (launchCredit (Pipeline.owing fun d => owe d 0) 0 (kcell (c, k))) = (tallyAt (kcell (c, k)) () (paid k * amt k) : CellTallies nD τ sig Unit) := by
  unfold tallyAt; refine congrArg _ (Finsupp.ext fun u => ?_); cases u
  rw [Pipeline.launchCredit_owing, Finsupp.single_eq_same]
  show (∑ d : Dev nD, Osum d (oweL.drop 0) (kcell (c, k)) ()) = _
  rw [Finset.sum_congr rfl fun d _ => Osum_at (oweL.drop 0) c d k, ← Finset.sum_mul]
  exact congrArg (· * amt k) (times_sum c k)

theorem osem_injective : Function.Injective osem := fun k k' h => by
  have h3 : some k = some k' := by rw [← kof_osem, ← kof_osem, h]
  exact Option.some.inj h3

theorem creds_keep (c : Dev nD) : (bigSep Finset.univ fun k : Fin 14 => (cred (tallyAt (kcell (c, k)) () (paid k * amt k)) : sProp 𝕄)) ⊢ creds c := by
  rw [over14]
  unfold creds
  iintro ⟨H0, H1, -, -, -, H5, H6, H7, -, -, -, H11, H12, H13⟩
  isplitl [H0]; · iexact H0
  isplitl [H1]; · iexact H1
  isplitl [H5]; · iapply (Entails.of_eq (congrArg (fun n => cred (tallyAt (kcell (c, 5)) () n)) (Nat.one_mul N))); iexact H5
  isplitl [H6]; · iapply (Entails.of_eq (congrArg (fun n => cred (tallyAt (kcell (c, 6)) () n)) (Nat.one_mul N))); iexact H6
  isplitl [H7]; · iapply (Entails.of_eq (congrArg (fun n => cred (tallyAt (kcell (c, 7)) () n)) (Nat.one_mul N))); iexact H7
  isplitl [H11]; · iapply (Entails.of_eq (congrArg (fun n => cred (tallyAt (kcell (c, 11)) () n)) (Nat.one_mul N))); iexact H11
  isplitl [H12]; · iapply (Entails.of_eq (congrArg (fun n => cred (tallyAt (kcell (c, 12)) () n)) (Nat.one_mul N))); iexact H12
  iapply (Entails.of_eq (congrArg (fun n => cred (tallyAt (kcell (c, 13)) () n)) (Nat.one_mul N))); iexact H13

theorem creds_intro (c : Dev nD) : (Pipeline.launchCred (fun d => owe d 0) c : sProp 𝕄) ⊢ creds c := by
  unfold Pipeline.launchCred
  refine (bigSep_subset (Finset.subset_univ (Finset.univ.map ⟨osem, osem_injective⟩))).trans ?_
  rw [bigSep_map]
  refine (bigSep_mono fun k _ => show _ ⊢ (cred (tallyAt (kcell (c, k)) () (paid k * amt k)) : sProp 𝕄) from Entails.of_eq (congrArg _ (launch_at c k))).trans (creds_keep c)

/-! ### The launch theorem's remaining facts -/

theorem start_intro (c : Dev nD) :
    iprop(Pipeline.unscopedRestP Pipeline.Prefetch.none cfg0.spec c (fun b => m ((c : Thread nD τ).loc b)) ∗ levAts L lv
        ∗ Pipeline.launchCred (fun d => owe d 0) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr, Hl⟩
  isplitl [Hs]; · iexact Hs
  isplitl [Hr]; · iexact Hr
  iexact Hl

theorem phi1_exit (c : Dev nD) :
    (dats m ρ 0 c).Φ (Fin.last cfg0.N) ⊢ iprop(unscopedSems0 c ∗ Pipeline.ownSems0 osem' c ∗ Pipeline.scopedRest cfg0.spec c) := by
  rw [show (dats m ρ 0 c).Φ (Fin.last cfg0.N) = Φ₁ c from rfl, scopedRest0_eq]
  unfold Φ₁
  rw [sems0_eq]
  iintro ⟨Hr, Hl, Hu, Ho⟩
  isplitl [Hu]; · iexact Hu
  isplitl [Ho]; · iexact Ho
  isplitl [Hr]; · iexact Hr
  iexact Hl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_gen c _ 0 (by
        show lv (((0 : Dev nD) : Thread nD τ), _) () = 0
        fin_cases w <;> fin_cases s <;> decide) 0 (by decide)
    · exact mayWait_gen c _ 0 (by
        show lv (((0 : Dev nD) : Thread nD τ), _) () = 0
        fin_cases w <;> fin_cases s <;> decide) 10 (by decide)

/-! ### The run -/

/-- What device `c`'s array behind window `w` ends at. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory and zero counters, whatever the float values are, the program on the four devices ends, every
    window's array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five argument arrays end as they began. -/
theorem kept (c : Dev nD) (w : Fin cfg0.W) (h : w ≠ (5 : Fin 6)) : finalA m ρ c w = m ((cfg0.win w).arr.view.loc (c : Thread nD τ)) := by
  refine (dats (F := F) m ρ 0 c).arrAt_in w ?_ _
  fin_cases w <;> first | rfl | exact absurd rfl h

/-- The frame claim of this program at any float values: it ends, its arguments unchanged and all counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).monotone (fun r h => ⟨fun c => ?_, h.2⟩) (run_main m ρ)
  exact ⟨(h.1 c (0 : Fin 6)).trans (kept m ρ c (0 : Fin 6) (by decide)), (h.1 c (1 : Fin 6)).trans (kept m ρ c (1 : Fin 6) (by decide)),
    (h.1 c (2 : Fin 6)).trans (kept m ρ c (2 : Fin 6) (by decide)), (h.1 c (3 : Fin 6)).trans (kept m ρ c (3 : Fin 6) (by decide)),
    (h.1 c (4 : Fin 6)).trans (kept m ρ c (4 : Fin 6) (by decide))⟩

end Cert.KernelIdeal.Moe
-- ==== Proof.Value.Steps.lean ====
/- What one payload of the kernel adds to the result at an index, over the extended reals. -/
module

public import proofs.«01_k».proof.Proof.Ideal.Proto
public import Idealize.ShloMosaic.Lib.Pointwise
public import Idealize.ShloMosaic.Lib.Pipeline.Value

@[expose] public section

noncomputable section

namespace Cert.KernelIdeal.Moe

open Cert.KernelIdeal Cert.KernelIdeal.Gen
open Idealize.ShloMosaic
open Idealize.ShloMosaic.TcCoe

/-- What the expert with the number `w` and the column `E` adds for token `n`. -/
def tm (X : FVec Ideal S2048x512 .bf16) (I : IVec S2048x1 32) (g : FVec Ideal S2048x1 .f32) (w : BitVec 32) (n : Fin 2048) (E : Fin 512 → EReal) : EReal :=
  ∑ k : Fin 512, X (ix2 n k) * Scalar.select (IntOp.cmpi .eq (I (ix2 n 0)) w) (g (ix2 n 0)) 0 * E k

/-- A step of the kernel at an index: the product of the gated tokens with one expert. -/
theorem prod_apply (X : FVec Ideal S2048x512 .bf16) (I : IVec S2048x1 32) (g : FVec Ideal S2048x1 .f32) (w : BitVec 32)
    (W : FVec Ideal S512x1024 .bf16) (n : Fin 2048) (j : Fin 1024) :
    matmul dot_S2048x512_S512x1024_S2048x1024_1_0_0_1_n_n none (mulf X (broadcastTo S2048x512 (truncf .bf16 (select (cmpi .eq I (broadcast S2048x1 w)) g (broadcast S2048x1 (Scalar.ofBits .f32 0x00000000#32))) bitsLt_bf16_f32) broadcasts_S2048x1_S2048x512)) W (constant S2048x1024 .f32 0x00000000#32) (ix2 n j)
      = tm X I g w n (fun k => W (ix2 k j)) := by
  unfold tm
  pointwise []

theorem cast3_apply (e : Vec Ideal S1x512x1024 .bf16) (k : Fin 512) (j : Fin 1024) :
    shapeCast S512x1024 e shapeCasts_S1x512x1024_S512x1024 (ix2 k j) = e (ix3 0 k j) := by
  pointwise []
theorem cast4_apply (e : Vec Ideal S1x1x512x1024 .bf16) (k : Fin 512) (j : Fin 1024) :
    shapeCast S512x1024 e shapeCasts_S1x1x512x1024_S512x1024 (ix2 k j) = e (ix4 0 0 k j) := by
  pointwise []

theorem step3 (X : FVec Ideal S2048x512 .bf16) (I : IVec S2048x1 32) (g : FVec Ideal S2048x1 .f32) (w : BitVec 32)
    (v : FVec Ideal S2048x1024 .f32) (e : FVec Ideal S1x512x1024 .bf16) (n : Fin 2048) (j : Fin 1024) :
    addf (shapeCast S2048x1024 v shapeCasts_S2048x1024_S2048x1024) (matmul dot_S2048x512_S512x1024_S2048x1024_1_0_0_1_n_n none (mulf X (broadcastTo S2048x512 (truncf .bf16 (select (cmpi .eq I (broadcast S2048x1 w)) g (broadcast S2048x1 (Scalar.ofBits .f32 0x00000000#32))) bitsLt_bf16_f32) broadcasts_S2048x1_S2048x512)) (shapeCast S512x1024 e shapeCasts_S1x512x1024_S512x1024) (constant S2048x1024 .f32 0x00000000#32)) (ix2 n j)
      = v (ix2 n j) + tm X I g w n (fun k => e (ix3 0 k j)) := by
  rw [shapeCast_self, ValueIdx.addf_apply, prod_apply]
  exact congrArg (v (ix2 n j) + ·) (Finset.sum_congr rfl fun k _ => congrArg _ (cast3_apply e k j))

theorem step4 (X : FVec Ideal S2048x512 .bf16) (I : IVec S2048x1 32) (g : FVec Ideal S2048x1 .f32) (w : BitVec 32)
    (v : FVec Ideal S2048x1024 .f32) (e : FVec Ideal S1x1x512x1024 .bf16) (n : Fin 2048) (j : Fin 1024) :
    addf (shapeCast S2048x1024 v shapeCasts_S2048x1024_S2048x1024) (matmul dot_S2048x512_S512x1024_S2048x1024_1_0_0_1_n_n none (mulf X (broadcastTo S2048x512 (truncf .bf16 (select (cmpi .eq I (broadcast S2048x1 w)) g (broadcast S2048x1 (Scalar.ofBits .f32 0x00000000#32))) bitsLt_bf16_f32) broadcasts_S2048x1_S2048x512)) (shapeCast S512x1024 e shapeCasts_S1x1x512x1024_S512x1024) (constant S2048x1024 .f32 0x00000000#32)) (ix2 n j)
      = v (ix2 n j) + tm X I g w n (fun k => e (ix4 0 0 k j)) := by
  rw [shapeCast_self, ValueIdx.addf_apply, prod_apply]
  exact congrArg (v (ix2 n j) + ·) (Finset.sum_congr rfl fun k _ => congrArg _ (cast4_apply e k j))

theorem pay5_apply (x : FVec Ideal S2048x512 .bf16) (h : FVec Ideal S512x1024 .bf16) (n : Fin 2048) (j : Fin 1024) :
    k0_pay5 (F := Ideal) x h (ix2 n j) = ∑ k : Fin 512, x (ix2 n k) * h (ix2 k j) := by
  unfold k0_pay5 k0_pay2
  rw [shapeCast_self, shapeCast_self]
  pointwise []

/-! ## The experts a step reads -/

theorem eW0_apply (f : (cc0_stg3_0 : Ref sig .tc).ty.Contents (Elt Ideal)) (k : Fin 512) (j : Fin 1024) :
    eW0 f (ix3 0 k j) = f (ix3 (n0 := 4) 0 k j) :=
  congrArg f (funext fun a => Fin.ext (by fin_cases a <;> first | rfl | exact (Nat.zero_add _).trans (Nat.one_mul _)))
theorem eW1_apply (f : (cc0_stg3_0 : Ref sig .tc).ty.Contents (Elt Ideal)) (k : Fin 512) (j : Fin 1024) :
    eW1 f (ix3 0 k j) = f (ix3 (n0 := 4) 1 k j) :=
  congrArg f (funext fun a => Fin.ext (by fin_cases a <;> first | rfl | exact (Nat.zero_add _).trans (Nat.one_mul _)))
theorem eW2_apply (f : (cc0_stg3_0 : Ref sig .tc).ty.Contents (Elt Ideal)) (k : Fin 512) (j : Fin 1024) :
    eW2 f (ix3 0 k j) = f (ix3 (n0 := 4) 2 k j) :=
  congrArg f (funext fun a => Fin.ext (by fin_cases a <;> first | rfl | exact (Nat.zero_add _).trans (Nat.one_mul _)))
theorem eW3_apply (f : (cc0_stg3_0 : Ref sig .tc).ty.Contents (Elt Ideal)) (k : Fin 512) (j : Fin 1024) :
    eW3 f (ix3 0 k j) = f (ix3 (n0 := 4) 3 k j) :=
  congrArg f (funext fun a => Fin.ext (by fin_cases a <;> first | rfl | exact (Nat.zero_add _).trans (Nat.one_mul _)))
variable (m : (ℓ : Loc nD τ sig) → Buf (Elt Ideal) ℓ) (ρ : Dev nD → PrngReg)

theorem rW00_apply (d : Dev nD) (k : Fin 512) (j : Fin 1024) :
    rW a00 (RC m ρ d) (ix4 0 0 k j) = eS m ρ d (ix3 (n0 := 4) 0 k j) :=
  congrArg (eS m ρ d) (funext fun a => Fin.ext (by fin_cases a <;> first | rfl | exact (Nat.zero_add _).trans (Nat.one_mul _)))
theorem lW00_apply (d : Dev nD) (k : Fin 512) (j : Fin 1024) :
    lW a00 (LC m ρ d) (ix4 0 0 k j) = eS m ρ d (ix3 (n0 := 4) 2 k j) :=
  congrArg (eS m ρ d) (funext fun a => Fin.ext (by fin_cases a <;> first | rfl | exact (Nat.zero_add _).trans (Nat.one_mul _)))
theorem rW01_apply (d : Dev nD) (k : Fin 512) (j : Fin 1024) :
    rW a01 (RC m ρ d) (ix4 0 0 k j) = eS m ρ d (ix3 (n0 := 4) 1 k j) :=
  congrArg (eS m ρ d) (funext fun a => Fin.ext (by fin_cases a <;> first | rfl | exact (Nat.zero_add _).trans (Nat.one_mul _)))
theorem lW01_apply (d : Dev nD) (k : Fin 512) (j : Fin 1024) :
    lW a01 (LC m ρ d) (ix4 0 0 k j) = eS m ρ d (ix3 (n0 := 4) 3 k j) :=
  congrArg (eS m ρ d) (funext fun a => Fin.ext (by fin_cases a <;> first | rfl | exact (Nat.zero_add _).trans (Nat.one_mul _)))
theorem rW10_apply (d : Dev nD) (k : Fin 512) (j : Fin 1024) :
    rW a10 (RC m ρ d) (ix4 0 0 k j) = eS m ρ d (ix3 (n0 := 4) 0 k j) :=
  congrArg (eS m ρ d) (funext fun a => Fin.ext (by fin_cases a <;> first | rfl | exact (Nat.zero_add _).trans (Nat.one_mul _)))
theorem lW10_apply (d : Dev nD) (k : Fin 512) (j : Fin 1024) :
    lW a10 (LC m ρ d) (ix4 0 0 k j) = eS m ρ d (ix3 (n0 := 4) 2 k j) :=
  congrArg (eS m ρ d) (funext fun a => Fin.ext (by fin_cases a <;> first | rfl | exact (Nat.zero_add _).trans (Nat.one_mul _)))
theorem rW11_apply (d : Dev nD) (k : Fin 512) (j : Fin 1024) :
    rW a11 (RC m ρ d) (ix4 0 0 k j) = eS m ρ d (ix3 (n0 := 4) 1 k j) :=
  congrArg (eS m ρ d) (funext fun a => Fin.ext (by fin_cases a <;> first | rfl | exact (Nat.zero_add _).trans (Nat.one_mul _)))
theorem lW11_apply (d : Dev nD) (k : Fin 512) (j : Fin 1024) :
    lW a11 (LC m ρ d) (ix4 0 0 k j) = eS m ρ d (ix3 (n0 := 4) 3 k j) :=
  congrArg (eS m ρ d) (funext fun a => Fin.ext (by fin_cases a <;> first | rfl | exact (Nat.zero_add _).trans (Nat.one_mul _)))

/-! ## The accumulator after each pair of steps -/

/-- What expert `q` of device `d` adds on device `c`, whose steps know this expert by the number `w`. -/
def ad (c : Dev nD) (w : BitVec 32) (d : Dev nD) (q : Fin 4) (n : Fin 2048) (j : Fin 1024) : EReal :=
  tm (xx m ρ c) (ix m ρ c) (gt m ρ c) w n (fun k => eS m ρ d (ix3 (n0 := 4) q k j))

theorem acc2_apply (c : Dev nD) (v : FVec Ideal S2048x1024 .f32) (n : Fin 2048) (j : Fin 1024) :
    acc2 m ρ c v (ix2 n j) = v (ix2 n j) + ad m ρ c (Scalar.addi (Scalar.addi (Scalar.muli (pos c) 4#32) 0#32) 0#32) c 0 n j + ad m ρ c (Scalar.addi (Scalar.addi (Scalar.muli (pos c) 4#32) 0#32) 1#32) c 1 n j := by
  unfold acc2 k0_pay7 k0_pay6
  refine (step3 _ _ _ _ _ _ n j).trans ?_
  refine congrArg₂ (· + ·) ((step3 _ _ _ _ _ _ n j).trans ?_) (Finset.sum_congr rfl fun k _ => congrArg _ (eW1_apply _ k j))
  exact congrArg (v (ix2 n j) + ·) (Finset.sum_congr rfl fun k _ => congrArg _ (eW0_apply _ k j))
theorem acc4_apply (c : Dev nD) (v : FVec Ideal S2048x1024 .f32) (n : Fin 2048) (j : Fin 1024) :
    acc4 m ρ c v (ix2 n j) = v (ix2 n j) + ad m ρ c (Scalar.addi (Scalar.addi (Scalar.muli (pos c) 4#32) 0#32) 2#32) c 2 n j + ad m ρ c (Scalar.addi (Scalar.addi (Scalar.muli (pos c) 4#32) 0#32) 3#32) c 3 n j := by
  unfold acc4 k0_pay9 k0_pay8
  refine (step3 _ _ _ _ _ _ n j).trans ?_
  refine congrArg₂ (· + ·) ((step3 _ _ _ _ _ _ n j).trans ?_) (Finset.sum_congr rfl fun k _ => congrArg _ (eW3_apply _ k j))
  exact congrArg (v (ix2 n j) + ·) (Finset.sum_congr rfl fun k _ => congrArg _ (eW2_apply _ k j))
theorem acc6_apply (c : Dev nD) (v : FVec Ideal S2048x1024 .f32) (n : Fin 2048) (j : Fin 1024) :
    acc6 m ρ c v (ix2 n j) = v (ix2 n j) + ad m ρ c (Scalar.addi (Scalar.addi (Scalar.muli (pos3 c) 4#32) 0#32) 0#32) (prv c) 0 n j + ad m ρ c (Scalar.addi (Scalar.addi (Scalar.muli (pos3 c) 4#32) 0#32) 1#32) (prv c) 1 n j := by
  unfold acc6 k0_pay11 k0_pay10
  refine (step4 _ _ _ _ _ _ n j).trans ?_
  refine congrArg₂ (· + ·) ((step4 _ _ _ _ _ _ n j).trans ?_) (Finset.sum_congr rfl fun k _ => congrArg _ (rW01_apply m ρ _ k j))
  exact congrArg (v (ix2 n j) + ·) (Finset.sum_congr rfl fun k _ => congrArg _ (rW00_apply m ρ _ k j))
theorem acc8_apply (c : Dev nD) (v : FVec Ideal S2048x1024 .f32) (n : Fin 2048) (j : Fin 1024) :
    acc8 m ρ c v (ix2 n j) = v (ix2 n j) + ad m ρ c (Scalar.addi (Scalar.addi (Scalar.muli (pos1 c) 4#32) 2#32) 0#32) (nxt c) 2 n j + ad m ρ c (Scalar.addi (Scalar.addi (Scalar.muli (pos1 c) 4#32) 2#32) 1#32) (nxt c) 3 n j := by
  unfold acc8 k0_pay15 k0_pay13 k0_pay14 k0_pay12
  refine (step4 _ _ _ _ _ _ n j).trans ?_
  refine congrArg₂ (· + ·) ((step4 _ _ _ _ _ _ n j).trans ?_) (Finset.sum_congr rfl fun k _ => congrArg _ (lW01_apply m ρ _ k j))
  exact congrArg (v (ix2 n j) + ·) (Finset.sum_congr rfl fun k _ => congrArg _ (lW00_apply m ρ _ k j))
theorem acc10_apply (c : Dev nD) (v : FVec Ideal S2048x1024 .f32) (n : Fin 2048) (j : Fin 1024) :
    acc10 m ρ c v (ix2 n j) = v (ix2 n j) + ad m ρ c (Scalar.addi (Scalar.addi (Scalar.muli (pos2 c) 4#32) 0#32) 0#32) (prv (prv c)) 0 n j + ad m ρ c (Scalar.addi (Scalar.addi (Scalar.muli (pos2 c) 4#32) 0#32) 1#32) (prv (prv c)) 1 n j := by
  unfold acc10 k0_pay17 k0_pay16
  refine (step4 _ _ _ _ _ _ n j).trans ?_
  refine congrArg₂ (· + ·) ((step4 _ _ _ _ _ _ n j).trans ?_) (Finset.sum_congr rfl fun k _ => congrArg _ (rW11_apply m ρ _ k j))
  exact congrArg (v (ix2 n j) + ·) (Finset.sum_congr rfl fun k _ => congrArg _ (rW10_apply m ρ _ k j))
theorem acc12_apply (c : Dev nD) (v : FVec Ideal S2048x1024 .f32) (n : Fin 2048) (j : Fin 1024) :
    acc12 m ρ c v (ix2 n j) = v (ix2 n j) + ad m ρ c (Scalar.addi (Scalar.addi (Scalar.muli (pos2 c) 4#32) 2#32) 0#32) (nxt (nxt c)) 2 n j + ad m ρ c (Scalar.addi (Scalar.addi (Scalar.muli (pos2 c) 4#32) 2#32) 1#32) (nxt (nxt c)) 3 n j := by
  unfold acc12 k0_pay21 k0_pay20 k0_pay19 k0_pay18
  refine (step4 _ _ _ _ _ _ n j).trans ?_
  refine congrArg₂ (· + ·) ((step4 _ _ _ _ _ _ n j).trans ?_) (Finset.sum_congr rfl fun k _ => congrArg _ (lW11_apply m ρ _ k j))
  exact congrArg (v (ix2 n j) + ·) (Finset.sum_congr rfl fun k _ => congrArg _ (lW10_apply m ρ _ k j))
theorem acc14_apply (c : Dev nD) (v : FVec Ideal S2048x1024 .f32) (n : Fin 2048) (j : Fin 1024) :
    acc14 m ρ c v (ix2 n j) = v (ix2 n j) + ad m ρ c (Scalar.addi (Scalar.addi (Scalar.muli (pos1 c) 4#32) 0#32) 0#32) (prv (prv (prv c))) 0 n j + ad m ρ c (Scalar.addi (Scalar.addi (Scalar.muli (pos1 c) 4#32) 0#32) 1#32) (prv (prv (prv c))) 1 n j := by
  unfold acc14 k0_pay23 k0_pay22
  refine (step4 _ _ _ _ _ _ n j).trans ?_
  refine congrArg₂ (· + ·) ((step4 _ _ _ _ _ _ n j).trans ?_) (Finset.sum_congr rfl fun k _ => congrArg _ (rW01_apply m ρ _ k j))
  exact congrArg (v (ix2 n j) + ·) (Finset.sum_congr rfl fun k _ => congrArg _ (rW00_apply m ρ _ k j))
theorem acc16_apply (c : Dev nD) (v : FVec Ideal S2048x1024 .f32) (n : Fin 2048) (j : Fin 1024) :
    acc16 m ρ c v (ix2 n j) = v (ix2 n j) + ad m ρ c (Scalar.addi (Scalar.addi (Scalar.muli (pos3 c) 4#32) 2#32) 0#32) (nxt (nxt (nxt c))) 2 n j + ad m ρ c (Scalar.addi (Scalar.addi (Scalar.muli (pos3 c) 4#32) 2#32) 1#32) (nxt (nxt (nxt c))) 3 n j := by
  unfold acc16 k0_pay1 k0_pay25 k0_pay24 k0_pay26 k0_pay27
  refine (step4 _ _ _ _ _ _ n j).trans ?_
  refine congrArg₂ (· + ·) ((step4 _ _ _ _ _ _ n j).trans ?_) (Finset.sum_congr rfl fun k _ => congrArg _ (lW01_apply m ρ _ k j))
  exact congrArg (v (ix2 n j) + ·) (Finset.sum_congr rfl fun k _ => congrArg _ (lW00_apply m ρ _ k j))

end Cert.KernelIdeal.Moe
-- ==== Proof.Value.Gate.lean ====
/- The router's weight of a token: what the kernel computes, over the extended reals, and that it is a finite number. -/
module

public import proofs.«01_k».proof.Proof.Value.Steps

@[expose] public section

noncomputable section

namespace Cert.KernelIdeal.Moe

open Cert.KernelIdeal Cert.KernelIdeal.Gen
open Idealize.ShloMosaic

/-- The largest score. -/
def mx (s : Fin 16 → EReal) : EReal := Finset.univ.fold max (Ideal.ofBits .f32 0xFF800000#32) s
/-- The probability of expert `e`, of the scores `s`. -/
def pr (s : Fin 16 → EReal) (e : Fin 16) : EReal := Ideal.div (Ideal.exp (s e - mx s)) (∑ e', Ideal.exp (s e' - mx s))
/-- The weight of expert `e` for a token with the route `r`. -/
def wt (s : Fin 16 → EReal) (r : BitVec 32) (e : Fin 16) : EReal := Scalar.select (IntOp.cmpi .eq r (BitVec.ofNat 32 e)) (pr s e) 0

theorem pay4_apply (X : FVec Ideal S2048x512 .bf16) (I : IVec S2048x1 32) (W : FVec Ideal S512x16 .bf16) (n : Fin 2048) :
    k0_pay4 (F := Ideal) X I W (ix2 n 0) = ∑ e, wt (fun e => ∑ k : Fin 512, X (ix2 n k) * W (ix2 k e)) (I (ix2 n 0)) e := by
  unfold k0_pay4 k0_pay3 k0_pay2
  simp only [shapeCast_self]
  pointwise [wt, pr, mx]

/-! ## Finite numbers -/

/-- A real number. -/
def Re (z : EReal) : Prop := ∃ r : ℝ, z = (r : EReal)

theorem Re.add {y z : EReal} : Re y → Re z → Re (y + z) := by
  rintro ⟨a, rfl⟩ ⟨b, rfl⟩
  exact ⟨a + b, (EReal.coe_add a b).symm⟩
theorem Re.mul {y z : EReal} : Re y → Re z → Re (y * z) := by
  rintro ⟨a, rfl⟩ ⟨b, rfl⟩
  exact ⟨a * b, (EReal.coe_mul a b).symm⟩
theorem Re.sub {y z : EReal} : Re y → Re z → Re (y - z) := by
  rintro ⟨a, rfl⟩ ⟨b, rfl⟩
  exact ⟨a - b, (EReal.coe_sub a b).symm⟩
theorem Re.sum {n : ℕ} (f : Fin n → EReal) (h : ∀ k, Re (f k)) : Re (∑ k, f k) :=
  Finset.sum_induction f Re (fun _ _ => Re.add) ⟨0, rfl⟩ fun k _ => h k
theorem Re.of_ne {z : EReal} (hb : z ≠ ⊥) (ht : z ≠ ⊤) : Re z := ⟨z.toReal, (EReal.coe_toReal ht hb).symm⟩
theorem Re.ne_top {z : EReal} : Re z → z ≠ ⊤ := by rintro ⟨a, rfl⟩; exact EReal.coe_ne_top a
theorem Re.ne_bot {z : EReal} : Re z → z ≠ ⊥ := by rintro ⟨a, rfl⟩; exact EReal.coe_ne_bot a

/-- An extended real whose absolute value is below the infinity is a real number. -/
theorem Re.of_abs {z : EReal} (h : max z (-z) < ⊤) : Re z :=
  Re.of_ne (fun e => by rw [e] at h; simp at h) (fun e => by rw [e] at h; simp at h)

theorem bits_neg : Ideal.ofBits .f32 0xFF800000#32 = ⊥ := by simp [Ideal.ofBits, Ideal.ieee]
theorem bits_pos : Ideal.ofBits .f32 0x7F800000#32 = ⊤ := by simp [Ideal.ofBits, Ideal.ieee]

theorem mx_re {s : Fin 16 → EReal} (h : ∀ e, Re (s e)) : Re (mx s) := by
  unfold mx
  rw [bits_neg]
  refine Re.of_ne (fun hb => ?_) (fun ht => ?_)
  · have : (⊥ : EReal) < Finset.univ.fold max ⊥ s := (Finset.lt_fold_max (c := (⊥ : EReal))).2 (.inr ⟨0, Finset.mem_univ _, bot_lt_iff_ne_bot.2 (h 0).ne_bot⟩)
    exact absurd hb this.ne'
  · have : Finset.univ.fold max ⊥ s < (⊤ : EReal) := (Finset.fold_max_lt (c := (⊤ : EReal))).2 ⟨bot_lt_top, fun e _ => lt_top_iff_ne_top.2 (h e).ne_top⟩
    exact absurd ht this.ne

/-- A positive real number. -/
def Po (z : EReal) : Prop := ∃ r : ℝ, 0 < r ∧ z = (r : EReal)

theorem Po.add {y z : EReal} : Po y → Po z → Po (y + z) := by
  rintro ⟨a, ha, rfl⟩ ⟨b, hb, rfl⟩
  exact ⟨a + b, add_pos ha hb, (EReal.coe_add a b).symm⟩
theorem Po.exp {z : EReal} : Re z → Po (Ideal.exp z) := by
  rintro ⟨a, rfl⟩
  exact ⟨Real.exp a, Real.exp_pos a, Ideal.exp_coe a⟩
theorem Po.sum {n : ℕ} (f : Fin (n + 1) → EReal) (h : ∀ k, Po (f k)) : Po (∑ k, f k) :=
  Finset.sum_induction_nonempty f Po (fun _ _ => Po.add) ⟨0, Finset.mem_univ _⟩ fun k _ => h k

theorem pr_po {s : Fin 16 → EReal} (h : ∀ e, Re (s e)) (e : Fin 16) : Po (pr s e) := by
  obtain ⟨a, ha, ea⟩ := Po.exp ((h e).sub (mx_re h))
  obtain ⟨b, hb, eb⟩ := Po.sum (fun e' => Ideal.exp (s e' - mx s)) fun e' => Po.exp ((h e').sub (mx_re h))
  unfold pr
  rw [ea, eb, Ideal.div_coe hb.ne', ← EReal.coe_mul]
  exact ⟨_, mul_pos ha (one_div_pos.2 hb), rfl⟩

theorem wt_nonneg {s : Fin 16 → EReal} (h : ∀ e, Re (s e)) (r : BitVec 32) (e : Fin 16) : 0 ≤ wt s r e ∧ wt s r e ≠ ⊤ := by
  unfold wt
  obtain ⟨p, hp, ep⟩ := pr_po h e
  rw [ep]
  unfold Scalar.select
  split
  · exact ⟨EReal.coe_nonneg.2 hp.le, EReal.coe_ne_top p⟩
  · exact ⟨le_refl _, EReal.zero_ne_top⟩

theorem hit_iff (r w : BitVec 32) : IntOp.cmpi .eq r w = 1#1 ↔ r = w := by
  show BitVec.ofBool (r == w) = 1#1 ↔ r = w
  rw [← beq_iff_eq (a := r)]
  generalize (r == w) = b
  revert b
  decide
theorem miss {r w : BitVec 32} (h : ¬r = w) : IntOp.cmpi .eq r w = 0#1 := by
  show BitVec.ofBool (r == w) = 0#1
  rw [beq_eq_false_iff_ne.2 h]
  rfl

/-- The kernel's second comparison picks, out of the gate, the weight of the expert it names. -/
theorem select_gate (s : Fin 16 → EReal) (r : BitVec 32) (e : Fin 16) :
    Scalar.select (IntOp.cmpi .eq r (BitVec.ofNat 32 e.val)) (∑ e', wt s r e') 0 = wt s r e := by
  by_cases h : r = BitVec.ofNat 32 e.val
  · have hz : ∀ e', e' ≠ e → wt s r e' = 0 := fun e' he => by
      unfold wt Scalar.select
      rw [if_neg]
      intro hc
      have : r = BitVec.ofNat 32 e'.val := (hit_iff _ _).1 hc
      have h2 := congrArg BitVec.toNat (h.symm.trans this)
      simp only [BitVec.toNat_ofNat] at h2
      exact he (Fin.ext (by omega))
    rw [Finset.sum_eq_single e (fun e' _ he => hz e' he) (fun hn => absurd (Finset.mem_univ _) hn)]
    unfold wt Scalar.select
    split <;> rfl
  · have : IntOp.cmpi .eq r (BitVec.ofNat 32 e.val) = 0#1 := miss h
    unfold wt
    rw [this]
    rfl

/-- A finite weight which is not negative goes through a product of a row and a column. -/
theorem weight_out {n : ℕ} (x w : Fin n → EReal) {g : EReal} (h0 : 0 ≤ g) (ht : g ≠ ⊤) : ∑ k, x k * g * w k = g * ∑ k, x k * w k := by
  induction n with
  | zero => simp
  | succ n ih =>
    rw [Fin.sum_univ_castSucc, Fin.sum_univ_castSucc, ih, EReal.left_distrib_of_nonneg_of_ne_top h0 ht, mul_comm (x _) g, mul_assoc]

end Cert.KernelIdeal.Moe
-- ==== Proof.Value.Ref.lean ====
/- What the reference computes at an index, over the extended reals. -/
module

public import proofs.«01_k».proof.Proof.Value.Gate
public import proofs.«01_k».proof.Proof.Gen.ReferenceIdeal.Read

@[expose] public section

noncomputable section

namespace Cert.ReferenceIdeal.Moe

open Cert.ReferenceIdeal Cert.ReferenceIdeal.Read
open Idealize.ShloMosaic
open Cert.KernelIdeal.Moe (mx pr wt hit_iff miss)

/-- The gather along the experts reads, where the index names expert `e`, the row's entry `e`. -/
theorem gather_prob (p : FVec Ideal S8192x16 .f32) (i : IVec S8192x1x1 32) (n : Fin 8192) (e : Fin 16) (h : i (ix3 n 0 0) = BitVec.ofNat 32 e.val) :
    Host.gather gather_S8192x16_S8192x1x1_S8192x1_n_1_0_0_1_2_11 p i (ix2 n 0) = p (ix2 n e) := by
  set d := gather_S8192x16_S8192x1x1_S8192x1_n_1_0_0_1_2_11 with hd
  unfold Host.gather
  refine congrArg p (funext fun a => Fin.ext ?_)
  show d.start (ix2 n 0) i a + d.batchCoord (ix2 n 0) a + d.offCoord (ix2 n 0) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (congrArg Fin.val (List.mem_singleton.1 h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hs : d.siIdx (ix2 n 0) ⟨d.startIndexMap.idxOf 1, List.idxOf_lt_length_iff.2 (List.mem_singleton.mpr rfl)⟩ = ix3 n 0 0 := by
      funext b
      refine Fin.ext ?_
      match b with
      | ⟨0, _⟩ => rfl
      | ⟨1, _⟩ => rfl
      | ⟨2, _⟩ => rfl
    refine (congrArg (fun v : BitVec 32 => min v.toInt.toNat 15) ((congrArg i hs).trans h)).trans ?_
    show min (BitVec.ofNat 32 e.val).toInt.toNat 15 = e.val
    clear h
    revert e
    decide

/-- The gather of the experts reads, where the index names expert `e`, that expert's entry. -/
theorem gather_expert (E : FVec Ideal S16x512x1024 .f32) (i : IVec S8192x1 32) (n : Fin 8192) (k : Fin 512) (j : Fin 1024) (e : Fin 16)
    (h : i (ix2 n 0) = BitVec.ofNat 32 e.val) :
    Host.gather gather_S16x512x1024_S8192x1_S8192x512x1024_12_0_n_n_0_1_15121024 E i (ix3 n k j) = E (ix3 e k j) := by
  set d := gather_S16x512x1024_S8192x1_S8192x512x1024_12_0_n_n_0_1_15121024 with hd
  unfold Host.gather
  refine congrArg E (funext fun a => Fin.ext ?_)
  show d.start (ix3 n k j) i a + d.batchCoord (ix3 n k j) a + d.offCoord (ix3 n k j) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ d.startIndexMap from List.mem_singleton.mpr rfl)]
    have hs : d.siIdx (ix3 n k j) ⟨d.startIndexMap.idxOf 0, List.idxOf_lt_length_iff.2 (List.mem_singleton.mpr rfl)⟩ = ix2 n 0 := by
      funext b
      refine Fin.ext ?_
      match b with
      | ⟨0, _⟩ => rfl
      | ⟨1, _⟩ => rfl
    refine (congrArg (fun v : BitVec 32 => min v.toInt.toNat 15) ((congrArg i hs).trans h)).trans ?_
    show min (BitVec.ofNat 32 e.val).toInt.toNat 15 = e.val
    clear h
    revert e
    decide
  · unfold GatherDims.start
    rw [dif_neg (show (1 : Fin 3) ∉ d.startIndexMap by decide)]
    unfold GatherDims.offCoord
    rw [dif_pos (show (1 : Fin 3) ∈ d.sKept by decide)]
    simp only [Nat.zero_add]
    rfl
  · unfold GatherDims.start
    rw [dif_neg (show (2 : Fin 3) ∉ d.startIndexMap by decide)]
    unfold GatherDims.offCoord
    rw [dif_pos (show (2 : Fin 3) ∈ d.sKept by decide)]
    simp only [Nat.zero_add]
    rfl

theorem bits_zero : Ideal.ofBits .f32 0#32 = 0 := by simp [Ideal.ofBits, Ideal.ieee]

/-- The reference's test that a route names an expert. -/
def named (r : BitVec 32) : BitVec 1 := IntOp.andi (IntOp.cmpi .sge r 0#32) (IntOp.cmpi .slt r 16#32)

theorem named_yes (e : Fin 16) : named (BitVec.ofNat 32 e.val) = 1#1 := by
  revert e
  decide

theorem named_no {r : BitVec 32} (h : ∀ e : Fin 16, r ≠ BitVec.ofNat 32 e.val) : named r = 0#1 := by
  by_contra hn
  have h1 : named r = 1#1 := (BitVec.eq_zero_or_eq_one _).resolve_left hn
  have h2 : 0 ≤ r.toInt ∧ r.toInt < 16 := by
    have e : named r = BitVec.ofBool (decide (0 ≤ r.toInt) && decide (r.toInt < 16)) := by
      show BitVec.ofBool (BitVec.sle 0#32 r) &&& BitVec.ofBool (BitVec.slt r 16#32) = _
      unfold BitVec.sle BitVec.slt
      rw [show (0#32).toInt = 0 from rfl, show (16#32).toInt = 16 from rfl]
      cases decide (0 ≤ r.toInt) <;> cases decide (r.toInt < 16) <;> rfl
    rw [e] at h1
    by_cases ha : 0 ≤ r.toInt <;> by_cases hb : r.toInt < 16 <;> simp [ha, hb] at h1 ⊢
  have ht : r.toNat < 16 := by
    have := BitVec.toInt_eq_toNat_cond r
    have := r.isLt
    split at * <;> omega
  refine h ⟨r.toNat, ht⟩ (BitVec.eq_of_toNat_eq ?_)
  simp

/-- The index the row's probabilities are read at is the route, where it names an expert. -/
theorem prob_idx (r : IVec S8192x1 32) (n : Fin 8192) (e : Fin 16) (h : r (ix2 n 0) = BitVec.ofNat 32 e.val) :
    val_main_call0_v5 (F := Ideal) r (ix3 n 0 0) = BitVec.ofNat 32 e.val := by
  have : val_main_call0_v5 (F := Ideal) r (ix3 n 0 0) = Scalar.select (IntOp.cmpi .slt (r (ix2 n 0)) 0#32) (IntOp.addi (r (ix2 n 0)) 16#32) (r (ix2 n 0)) := by
    pointwise [val_main_call0_v5, val_main_call0_v4, val_main_call0_v3, val_main_call0_v2, val_main_call0_v1, val_main_call0_v0, val_main_call0_c, val_main_call0_c_0]
  rw [this, h]
  clear this h
  revert e
  decide

theorem expert_idx (r : IVec S8192x1 32) (n : Fin 8192) : val_main_call2_v0 (F := Ideal) r (ix2 n 0) = r (ix2 n 0) := by
  pointwise [val_main_call2_v0, val_main_v22]

theorem prob_apply (x : FVec Ideal S8192x512 .bf16) (W : FVec Ideal S512x16 .bf16) (n : Fin 8192) (e : Fin 16) :
    val_main_v11 (F := Ideal) x W (ix2 n e) = pr (fun e => ∑ k : Fin 512, x (ix2 n k) * W (ix2 k e)) e := by
  pointwise [val_main_v11, val_main_v10, val_main_v9, val_main_v8, val_main_v7, val_main_v6, val_main_v5, val_main_v4, val_main_v3, val_main_v2, val_main_v1, val_main_v0, val_main_cst, val_main_cst_0, pr, mx]

theorem named_apply (r : IVec S8192x1 32) (n : Fin 8192) : val_main_v18 (F := Ideal) r (ix2 n 0) = named (r (ix2 n 0)) := by
  pointwise [val_main_v18, val_main_v17, val_main_v16, val_main_v15, val_main_v14, val_main_c, val_main_c_1, named]

theorem ref_apply (x : FVec Ideal S8192x512 .bf16) (W : FVec Ideal S512x16 .bf16) (r : IVec S8192x1 32) (E : FVec Ideal S16x512x1024 .bf16) (H : FVec Ideal S512x1024 .bf16)
    (n : Fin 8192) (j : Fin 1024) :
    val_main_v27 (F := Ideal) x W r E H (ix2 n j) = (∑ k : Fin 512, x (ix2 n k) * H (ix2 k j))
      + ∑ e : Fin 16, wt (fun e => ∑ k : Fin 512, x (ix2 n k) * W (ix2 k e)) (r (ix2 n 0)) e * ∑ k : Fin 512, x (ix2 n k) * E (ix3 e k j) := by
  have h1 : val_main_v27 (F := Ideal) x W r E H (ix2 n j) = (∑ k : Fin 512, x (ix2 n k) * H (ix2 k j))
      + val_main_v20 (F := Ideal) x W r (ix2 n 0) * ∑ k : Fin 512, x (ix2 n k) * val_main_v23 (F := Ideal) r E (ix3 n k j) := by
    pointwise [val_main_v27, val_main_v26, val_main_v25, val_main_v24, val_main_v13, val_main_v12, val_main_v0]
  have h2 : val_main_v20 (F := Ideal) x W r (ix2 n 0) = Scalar.select (named (r (ix2 n 0))) (val_main_v19 (F := Ideal) x W r (ix2 n 0)) 0 := by
    rw [val_main_v20_apply, named_apply]
    refine congrArg _ ?_
    pointwise [val_main_call1_v1, val_main_call1_v0, val_main_cst_2]
    exact bits_zero
  rw [h1, h2]
  refine congrArg _ ?_
  by_cases h : ∃ e : Fin 16, r (ix2 n 0) = BitVec.ofNat 32 e.val
  · obtain ⟨e, he⟩ := h
    have hp : val_main_v19 (F := Ideal) x W r (ix2 n 0) = pr (fun e => ∑ k : Fin 512, x (ix2 n k) * W (ix2 k e)) e :=
      (gather_prob _ _ n e (prob_idx r n e he)).trans (prob_apply x W n e)
    have hE : ∀ k, val_main_v23 (F := Ideal) r E (ix3 n k j) = E (ix3 e k j) := fun k =>
      gather_expert _ _ n k j e ((expert_idx r n).trans he)
    rw [Finset.sum_eq_single e, hp, he, named_yes]
    · simp only [hE]
      unfold wt
      rw [(hit_iff _ _).2 rfl]
    · intro e' _ hne
      unfold wt
      rw [miss, Scalar.select, if_neg (by decide), zero_mul]
      intro hc
      have := congrArg BitVec.toNat (he.symm.trans hc)
      simp only [BitVec.toNat_ofNat] at this
      exact hne (Fin.ext (by omega))
    · exact fun hn => absurd (Finset.mem_univ _) hn
  · have hn : ∀ e : Fin 16, r (ix2 n 0) ≠ BitVec.ofNat 32 e.val := fun e he => h ⟨e, he⟩
    rw [named_no hn, Scalar.select, if_neg (by decide), zero_mul]
    refine (Finset.sum_eq_zero fun e _ => ?_).symm
    unfold wt
    rw [miss (hn e), Scalar.select, if_neg (by decide), zero_mul]

end Cert.ReferenceIdeal.Moe
-- ==== Proof.Value.Eq.lean ====
/- The kernel's result is the reference's, block by block, over the extended reals. -/
module

public import proofs.«01_k».proof.Proof.Value.Ref

@[expose] public section

noncomputable section

namespace Cert.KernelIdeal.Moe

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The experts in the order of the ring -/

/-- Expert `q` of device `d` among all sixteen. -/
def ex (d : Dev nD) (q : Fin 4) : Fin 16 := ⟨4 * d.val + q.val, by have h1 : d.val < 4 := d.isLt; have h2 := q.isLt; omega⟩

/-- What expert `q` of device `d` adds on device `c`. -/
def con (c d : Dev nD) (q : Fin 4) (n : Fin 2048) (j : Fin 1024) : EReal := ad m ρ c (BitVec.ofNat 32 (ex d q).val) d q n j

theorem ad_con {c d : Dev nD} {q : Fin 4} {w : BitVec 32} (h : w = BitVec.ofNat 32 (ex d q).val) (n : Fin 2048) (j : Fin 1024) :
    ad m ρ c w d q n j = con m ρ c d q n j := by rw [h]; rfl

theorem word2_0 (c : Dev nD) : Scalar.addi (Scalar.addi (Scalar.muli (pos c) 4#32) 0#32) 0#32 = BitVec.ofNat 32 (ex c 0).val := by revert c; decide
theorem word2_1 (c : Dev nD) : Scalar.addi (Scalar.addi (Scalar.muli (pos c) 4#32) 0#32) 1#32 = BitVec.ofNat 32 (ex c 1).val := by revert c; decide
theorem acc2_con (c : Dev nD) (v : FVec Ideal S2048x1024 .f32) (n : Fin 2048) (j : Fin 1024) :
    acc2 m ρ c v (ix2 n j) = v (ix2 n j) + con m ρ c c 0 n j + con m ρ c c 1 n j := by
  rw [acc2_apply, ad_con m ρ (word2_0 c), ad_con m ρ (word2_1 c)]
theorem word4_2 (c : Dev nD) : Scalar.addi (Scalar.addi (Scalar.muli (pos c) 4#32) 0#32) 2#32 = BitVec.ofNat 32 (ex c 2).val := by revert c; decide
theorem word4_3 (c : Dev nD) : Scalar.addi (Scalar.addi (Scalar.muli (pos c) 4#32) 0#32) 3#32 = BitVec.ofNat 32 (ex c 3).val := by revert c; decide
theorem acc4_con (c : Dev nD) (v : FVec Ideal S2048x1024 .f32) (n : Fin 2048) (j : Fin 1024) :
    acc4 m ρ c v (ix2 n j) = v (ix2 n j) + con m ρ c c 2 n j + con m ρ c c 3 n j := by
  rw [acc4_apply, ad_con m ρ (word4_2 c), ad_con m ρ (word4_3 c)]
theorem word6_0 (c : Dev nD) : Scalar.addi (Scalar.addi (Scalar.muli (pos3 c) 4#32) 0#32) 0#32 = BitVec.ofNat 32 (ex (prv c) 0).val := by revert c; decide
theorem word6_1 (c : Dev nD) : Scalar.addi (Scalar.addi (Scalar.muli (pos3 c) 4#32) 0#32) 1#32 = BitVec.ofNat 32 (ex (prv c) 1).val := by revert c; decide
theorem acc6_con (c : Dev nD) (v : FVec Ideal S2048x1024 .f32) (n : Fin 2048) (j : Fin 1024) :
    acc6 m ρ c v (ix2 n j) = v (ix2 n j) + con m ρ c (prv c) 0 n j + con m ρ c (prv c) 1 n j := by
  rw [acc6_apply, ad_con m ρ (word6_0 c), ad_con m ρ (word6_1 c)]
theorem word8_2 (c : Dev nD) : Scalar.addi (Scalar.addi (Scalar.muli (pos1 c) 4#32) 2#32) 0#32 = BitVec.ofNat 32 (ex (nxt c) 2).val := by revert c; decide
theorem word8_3 (c : Dev nD) : Scalar.addi (Scalar.addi (Scalar.muli (pos1 c) 4#32) 2#32) 1#32 = BitVec.ofNat 32 (ex (nxt c) 3).val := by revert c; decide
theorem acc8_con (c : Dev nD) (v : FVec Ideal S2048x1024 .f32) (n : Fin 2048) (j : Fin 1024) :
    acc8 m ρ c v (ix2 n j) = v (ix2 n j) + con m ρ c (nxt c) 2 n j + con m ρ c (nxt c) 3 n j := by
  rw [acc8_apply, ad_con m ρ (word8_2 c), ad_con m ρ (word8_3 c)]
theorem word10_0 (c : Dev nD) : Scalar.addi (Scalar.addi (Scalar.muli (pos2 c) 4#32) 0#32) 0#32 = BitVec.ofNat 32 (ex (prv (prv c)) 0).val := by revert c; decide
theorem word10_1 (c : Dev nD) : Scalar.addi (Scalar.addi (Scalar.muli (pos2 c) 4#32) 0#32) 1#32 = BitVec.ofNat 32 (ex (prv (prv c)) 1).val := by revert c; decide
theorem acc10_con (c : Dev nD) (v : FVec Ideal S2048x1024 .f32) (n : Fin 2048) (j : Fin 1024) :
    acc10 m ρ c v (ix2 n j) = v (ix2 n j) + con m ρ c (prv (prv c)) 0 n j + con m ρ c (prv (prv c)) 1 n j := by
  rw [acc10_apply, ad_con m ρ (word10_0 c), ad_con m ρ (word10_1 c)]
theorem word12_2 (c : Dev nD) : Scalar.addi (Scalar.addi (Scalar.muli (pos2 c) 4#32) 2#32) 0#32 = BitVec.ofNat 32 (ex (nxt (nxt c)) 2).val := by revert c; decide
theorem word12_3 (c : Dev nD) : Scalar.addi (Scalar.addi (Scalar.muli (pos2 c) 4#32) 2#32) 1#32 = BitVec.ofNat 32 (ex (nxt (nxt c)) 3).val := by revert c; decide
theorem acc12_con (c : Dev nD) (v : FVec Ideal S2048x1024 .f32) (n : Fin 2048) (j : Fin 1024) :
    acc12 m ρ c v (ix2 n j) = v (ix2 n j) + con m ρ c (nxt (nxt c)) 2 n j + con m ρ c (nxt (nxt c)) 3 n j := by
  rw [acc12_apply, ad_con m ρ (word12_2 c), ad_con m ρ (word12_3 c)]
theorem word14_0 (c : Dev nD) : Scalar.addi (Scalar.addi (Scalar.muli (pos1 c) 4#32) 0#32) 0#32 = BitVec.ofNat 32 (ex (prv (prv (prv c))) 0).val := by revert c; decide
theorem word14_1 (c : Dev nD) : Scalar.addi (Scalar.addi (Scalar.muli (pos1 c) 4#32) 0#32) 1#32 = BitVec.ofNat 32 (ex (prv (prv (prv c))) 1).val := by revert c; decide
theorem acc14_con (c : Dev nD) (v : FVec Ideal S2048x1024 .f32) (n : Fin 2048) (j : Fin 1024) :
    acc14 m ρ c v (ix2 n j) = v (ix2 n j) + con m ρ c (prv (prv (prv c))) 0 n j + con m ρ c (prv (prv (prv c))) 1 n j := by
  rw [acc14_apply, ad_con m ρ (word14_0 c), ad_con m ρ (word14_1 c)]
theorem word16_2 (c : Dev nD) : Scalar.addi (Scalar.addi (Scalar.muli (pos3 c) 4#32) 2#32) 0#32 = BitVec.ofNat 32 (ex (nxt (nxt (nxt c))) 2).val := by revert c; decide
theorem word16_3 (c : Dev nD) : Scalar.addi (Scalar.addi (Scalar.muli (pos3 c) 4#32) 2#32) 1#32 = BitVec.ofNat 32 (ex (nxt (nxt (nxt c))) 3).val := by revert c; decide
theorem acc16_con (c : Dev nD) (v : FVec Ideal S2048x1024 .f32) (n : Fin 2048) (j : Fin 1024) :
    acc16 m ρ c v (ix2 n j) = v (ix2 n j) + con m ρ c (nxt (nxt (nxt c))) 2 n j + con m ρ c (nxt (nxt (nxt c))) 3 n j := by
  rw [acc16_apply, ad_con m ρ (word16_2 c), ad_con m ρ (word16_3 c)]

theorem prv2 (c : Dev nD) : prv (prv c) = nxt (nxt c) := by revert c; decide
theorem prv3 (c : Dev nD) : prv (prv (prv c)) = nxt c := by revert c; decide
theorem nxt3 (c : Dev nD) : nxt (nxt (nxt c)) = prv c := by revert c; decide

/-- A sum over the devices, from `c` on around the ring. -/
theorem sum_ring (f : Dev nD → EReal) (c : Dev nD) : ∑ d, f d = f c + f (nxt c) + f (nxt (nxt c)) + f (prv c) := by
  rw [show ∑ d, f d = f (0 : Fin 4) + f (1 : Fin 4) + f (2 : Fin 4) + f (3 : Fin 4) from Fin.sum_univ_four f]
  obtain rfl | rfl | rfl | rfl : c = (0 : Fin 4) ∨ c = (1 : Fin 4) ∨ c = (2 : Fin 4) ∨ c = (3 : Fin 4) := by revert c; decide
  · rfl
  · show _ = f (1 : Fin 4) + f (2 : Fin 4) + f (3 : Fin 4) + f (0 : Fin 4); abel
  · show _ = f (2 : Fin 4) + f (3 : Fin 4) + f (0 : Fin 4) + f (1 : Fin 4); abel
  · show _ = f (3 : Fin 4) + f (0 : Fin 4) + f (1 : Fin 4) + f (2 : Fin 4); abel

theorem outAt_apply (c : Dev nD) (n : Fin 2048) (j : Fin 1024) :
    outAt m ρ c (ix2 n j) = acc0 m ρ c (ix2 n j) + ∑ d, ∑ q, con m ρ c d q n j := by
  unfold outAt
  rw [acc16_con, acc14_con, acc12_con, acc10_con, acc8_con, acc6_con, acc4_con, acc2_con, prv3, prv2, nxt3, sum_ring _ c]
  simp only [Fin.sum_univ_four]
  abel

/-! ## One device's rows against the reference's -/

/-- The row of the whole array which is row `n` of device `c`. -/
def row (c : Dev nD) (n : Fin 2048) : Fin 8192 := ⟨c.val * 2048 + n.val, by have h1 : c.val < 4 := c.isLt; have h2 := n.isLt; omega⟩

theorem sum_experts (g : Fin 16 → EReal) : ∑ e, g e = ∑ d : Dev nD, ∑ q : Fin 4, g (ex d q) := by
  rw [← Fintype.sum_prod_type' (fun (d : Fin 4) (q : Fin 4) => g (ex d q))]
  refine (Fintype.sum_equiv (finProdFinEquiv (m := 4) (n := 4)) _ _ fun p => ?_).symm
  exact congrArg g (Fin.ext (Nat.add_comm _ _))

variable {x : FVec Ideal Cert.ReferenceIdeal.S8192x512 .bf16} {W : FVec Ideal Cert.ReferenceIdeal.S512x16 .bf16} {r : IVec Cert.ReferenceIdeal.S8192x1 32}
  {E : FVec Ideal Cert.ReferenceIdeal.S16x512x1024 .bf16} {H : FVec Ideal Cert.ReferenceIdeal.S512x1024 .bf16}

theorem con_eq (hx : ∀ c n k, xS m ρ c (ix2 n k) = x (ix2 (row c n) k)) (hW : ∀ c k e, wS m ρ c (ix2 k e) = W (ix2 k e))
    (hr : ∀ c n, iS m ρ c (ix2 n 0) = r (ix2 (row c n) 0)) (hE : ∀ d q k j, eS m ρ d (ix3 q k j) = E (ix3 (ex d q) k j))
    (fx : ∀ n k, Re (x (ix2 n k))) (fW : ∀ k e, Re (W (ix2 k e))) (c d : Dev nD) (q : Fin 4) (n : Fin 2048) (j : Fin 1024) :
    con m ρ c d q n j = wt (fun e => ∑ k : Fin 512, x (ix2 (row c n) k) * W (ix2 k e)) (r (ix2 (row c n) 0)) (ex d q)
      * ∑ k : Fin 512, x (ix2 (row c n) k) * E (ix3 (ex d q) k j) := by
  have h := wt_nonneg (s := fun e => ∑ k : Fin 512, x (ix2 (row c n) k) * W (ix2 k e)) (fun e => Re.sum _ fun k => (fx _ k).mul (fW k e)) (r (ix2 (row c n) 0)) (ex d q)
  rw [← weight_out _ _ h.1 h.2, ← select_gate]
  unfold con ad tm xx ix gt k0_pay2 k0_pay3
  rw [shapeCast_self, shapeCast_self, pay4_apply]
  simp only [hx, hW, hr, hE]

theorem out_eq (hx : ∀ c n k, xS m ρ c (ix2 n k) = x (ix2 (row c n) k)) (hW : ∀ c k e, wS m ρ c (ix2 k e) = W (ix2 k e))
    (hr : ∀ c n, iS m ρ c (ix2 n 0) = r (ix2 (row c n) 0)) (hE : ∀ d q k j, eS m ρ d (ix3 q k j) = E (ix3 (ex d q) k j))
    (hH : ∀ c k j, hS m ρ c (ix2 k j) = H (ix2 k j))
    (fx : ∀ n k, Re (x (ix2 n k))) (fW : ∀ k e, Re (W (ix2 k e))) (c : Dev nD) (n : Fin 2048) (j : Fin 1024) :
    outAt m ρ c (ix2 n j) = Cert.ReferenceIdeal.Read.val_main_v27 (F := Ideal) x W r E H (ix2 (row c n) j) := by
  rw [outAt_apply, Cert.ReferenceIdeal.Moe.ref_apply, sum_experts]
  refine congrArg₂ (· + ·) ?_ (Finset.sum_congr rfl fun d _ => Finset.sum_congr rfl fun q _ => con_eq m ρ hx hW hr hE fx fW c d q n j)
  unfold acc0
  refine (pay5_apply _ _ n j).trans (Finset.sum_congr rfl fun k _ => ?_)
  exact congrArg₂ (· * ·) (hx c n k) (hH c k j)

end Cert.KernelIdeal.Moe
-- ==== Proof.Value.Run.lean ====
/- The value claim of the kernel against the reference: the run, its result array block by block. -/
module

public import proofs.«01_k».proof.Defs
public import proofs.«01_k».proof.Proof.Value.Eq
public import proofs.«01_k».proof.Proof.Ideal.Run

@[expose] public section

noncomputable section

namespace Cert.KernelIdeal.Moe

open Cert.KernelIdeal Cert.KernelIdeal.Gen
open Idealize.ShloMosaic Idealize.SL.Sem
open Idealize.ShloMosaic.TcCoe

/-- The side conditions of the precondition's two readings. -/
theorem pre_facts : Cert.Pre_finite_router_inputs_KernelIdeal.Facts := ⟨by decide, by decide, by decide⟩
theorem pre_facts_ref : Cert.Pre_finite_router_inputs_ReferenceIdeal.Facts := ⟨by decide, by decide, by decide⟩

variable (m : (ℓ : Loc nD τ sig) → Buf (Elt Ideal) ℓ) (ρ : Dev nD → PrngReg)

theorem arr_x (c : Dev nD) : xS m ρ c = m ((c.tc : Thread nD τ).loc main_arg0) := Memref.read_access_unit_zero (Elt Ideal) main_arg0 (by decide) _ _
theorem arr_w (c : Dev nD) : wS m ρ c = m ((c.tc : Thread nD τ).loc main_arg1) := Memref.read_access_unit_zero (Elt Ideal) main_arg1 (by decide) _ _
theorem arr_i (c : Dev nD) : iS m ρ c = m ((c.tc : Thread nD τ).loc main_arg2) := Memref.read_access_unit_zero (Elt Ideal) main_arg2 (by decide) _ _
theorem arr_e (c : Dev nD) : eS m ρ c = m ((c.tc : Thread nD τ).loc main_arg3) := Memref.read_access_unit_zero (Elt Ideal) main_arg3 (by decide) _ _
theorem arr_h (c : Dev nD) : hS m ρ c = m ((c.tc : Thread nD τ).loc main_arg4) := Memref.read_access_unit_zero (Elt Ideal) main_arg4 (by decide) _ _

/-- The result array of device `c` ends at what the kernel leaves in the result's staging buffer. -/
theorem final_out (c : Dev nD) : finalA m ρ c (5 : Fin 6) = outAt m ρ c := by
  unfold finalA
  rw [show cfg0.N = t₀.val + 1 from cfg0_N]
  refine ((dats m ρ 0 c).arrAt_succ (5 : Fin 6) t₀).trans ?_
  rw [if_pos (by decide)]
  exact Memref.write_access_unit_zero_univ (Elt Ideal) main_v1 (by decide) _ _ _

/-! ## The blocks, the precondition, the claim -/

theorem of_bit {p : Prop} [Decidable p] (h : BitVec.ofBool (decide p) = 1#1) : p := by
  by_contra hn
  rw [decide_eq_false hn] at h
  exact absurd h (by decide)

theorem block2 {α : Type} {w : ℕ} (c : Fin 4) (v : (⟨2, ![8192, w]⟩ : Shape).Idx → α) (h : Layout.Tiles ⟨2, ![2048, w]⟩ ⟨2, ![8192, w]⟩ 0 4) (n : Fin 2048) (k : Fin w) :
    Layout.block ⟨2, ![2048, w]⟩ ⟨2, ![8192, w]⟩ 0 4 c v h (ix2 n k) = v (ix2 (row c n) k) :=
  congrArg v (funext fun a => Fin.ext (by fin_cases a <;> rfl))

theorem block3 {α : Type} (c : Fin 4) (v : (⟨3, ![16, 512, 1024]⟩ : Shape).Idx → α) (h : Layout.Tiles ⟨3, ![4, 512, 1024]⟩ ⟨3, ![16, 512, 1024]⟩ 0 4) (q : Fin 4) (k : Fin 512) (j : Fin 1024) :
    Layout.block ⟨3, ![4, 512, 1024]⟩ ⟨3, ![16, 512, 1024]⟩ 0 4 c v h (ix3 q k j) = v (ix3 (ex c q) k j) :=
  congrArg v (funext fun a => Fin.ext (by
    fin_cases a
    · exact congrArg (· + q.val) (Nat.mul_comm c.val 4)
    · rfl
    · rfl))

theorem row_div (n : Fin 8192) : row (⟨n.val / 2048, by have := n.isLt; show _ < 4; omega⟩ : Fin 4) ⟨n.val % 2048, by omega⟩ = n :=
  Fin.ext (by show n.val / 2048 * 2048 + n.val % 2048 = n.val; omega)

/-- What the precondition says of the tokens and of the router's weights. -/
theorem pre_re (h : Cert.Pre_KernelIdeal_finite_router_inputs_KernelIdeal (hPre_finite_router_inputs_KernelIdeal := pre_facts) m) (c : Dev nD) :
    (∀ n k, Re (xS m ρ c (ix2 n k))) ∧ ∀ k e, Re (wS m ρ c (ix2 k e)) := by
  rw [arr_x, arr_w]
  refine ⟨fun n k => Re.of_abs ?_, fun k e => Re.of_abs ?_⟩
  · rw [← bits_pos]
    exact of_bit (congrFun (h c).1 (ix2 n k))
  · rw [← bits_pos]
    exact of_bit (congrFun (h c).2 (ix2 k e))

theorem value : Cert.algebraic_KernelIdeal_ReferenceIdeal_pre_finite_router_inputs_KernelIdeal (hPre_finite_router_inputs_KernelIdeal := pre_facts) := by
  intro m g m' g' hpre hblk
  have hx : ∀ c n k, xS m g c (ix2 n k) = (m' (((0 : Dev Cert.ReferenceIdeal.nD).tc : Thread Cert.ReferenceIdeal.nD Cert.ReferenceIdeal.τ).loc Cert.ReferenceIdeal.main_arg0)) (ix2 (row c n) k) :=
    fun c n k => by rw [arr_x, (hblk c).1]; exact block2 c _ _ n k
  have hW : ∀ c k e, wS m g c (ix2 k e) = (m' (((0 : Dev Cert.ReferenceIdeal.nD).tc : Thread Cert.ReferenceIdeal.nD Cert.ReferenceIdeal.τ).loc Cert.ReferenceIdeal.main_arg1)) (ix2 k e) :=
    fun c k e => by rw [arr_w, (hblk c).2.1]
  have hr : ∀ c n, iS m g c (ix2 n 0) = (m' (((0 : Dev Cert.ReferenceIdeal.nD).tc : Thread Cert.ReferenceIdeal.nD Cert.ReferenceIdeal.τ).loc Cert.ReferenceIdeal.main_arg2)) (ix2 (row c n) 0) :=
    fun c n => by rw [arr_i, (hblk c).2.2.1]; exact block2 c _ _ n 0
  have hE : ∀ d q k j, eS m g d (ix3 q k j) = (m' (((0 : Dev Cert.ReferenceIdeal.nD).tc : Thread Cert.ReferenceIdeal.nD Cert.ReferenceIdeal.τ).loc Cert.ReferenceIdeal.main_arg3)) (ix3 (ex d q) k j) :=
    fun d q k j => by rw [arr_e, (hblk d).2.2.2.1]; exact block3 d _ _ q k j
  have hH : ∀ c k j, hS m g c (ix2 k j) = (m' (((0 : Dev Cert.ReferenceIdeal.nD).tc : Thread Cert.ReferenceIdeal.nD Cert.ReferenceIdeal.τ).loc Cert.ReferenceIdeal.main_arg4)) (ix2 k j) :=
    fun c k j => by rw [arr_h, (hblk c).2.2.2.2]
  have key := out_eq m g hx hW hr hE hH
    (fun n k => by rw [← row_div n, ← hx]; exact (pre_re m g hpre _).1 _ _)
    (fun k e => by rw [← hW (0 : Fin 4)]; exact (pre_re m g hpre _).2 _ _)
  refine ⟨_, (θ_run _ _ _).monotone (fun r h c => ⟨?_, ?_⟩) (run_main m g),
    (θ_run Cert.ReferenceIdeal.defs _ _).mono (fun r h => ⟨(h 0).1.trans (Cert.ReferenceIdeal.Read.val_main_v27_eq _ _ _ _ _), (h 0).2⟩) (Cert.ReferenceIdeal.Value.run (F := Ideal) m' g')⟩
  · refine ((h.1 c (5 : Fin 6)).trans (final_out m g c)).trans (funext fun i => ?_)
    rw [eq_ix2 i]
    exact (key c (i 0) (i 1)).trans (block2 c _ _ _ _).symm
  · exact ⟨(h.1 c (0 : Fin 6)).trans (kept m g c (0 : Fin 6) (by decide)), (h.1 c (1 : Fin 6)).trans (kept m g c (1 : Fin 6) (by decide)),
      (h.1 c (2 : Fin 6)).trans (kept m g c (2 : Fin 6) (by decide)), (h.1 c (3 : Fin 6)).trans (kept m g c (3 : Fin 6) (by decide)),
      (h.1 c (4 : Fin 6)).trans (kept m g c (4 : Fin 6) (by decide))⟩

end Cert.KernelIdeal.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Run
public import proofs.«01_k».proof.Proof.Printed.Run
public import proofs.«01_k».proof.Proof.Value.Run
public import Idealize.ShloMosaic.Adequacy
public import Idealize.ShloMosaic.Init

@[expose] public section

noncomputable section

namespace Cert.Proof

open Idealize.ShloMosaic Idealize.SL.Sem Cert.Kernel

/-- The reference runs, its arguments end as they began; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KernelIdeal.Moe.pre_facts, Cert.KernelIdeal.Moe.pre_facts_ref,
  fun m ρ _ => Cert.Kernel.Moe.frame_main m ρ, fun m ρ _ => Cert.KernelIdeal.Moe.frame_main m ρ, fun m ρ _ => Cert.KernelIdeal.Moe.frame_main m ρ,
  frame_reference, fun m ρ _ => frame_reference m ρ trivial, trivial, Cert.KernelIdeal.Moe.value⟩

end Cert.Proof

end
